-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_in_range : Cert.Pre_in_range.Facts] (m : (ℓ : Loc Cert.Gather.nD Cert.Gather.τ Cert.Gather.sig) → Buf (Elt Bits) ℓ) : Prop :=
  ∀ c : Dev Cert.Gather.nD,
    (Cert.Pre_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_Take (m : (ℓ : Loc Cert.Take.nD Cert.Take.τ Cert.Take.sig) → Buf (Elt Bits) ℓ) : Prop :=
  True

def Pre_Take_in_range [hPre_in_range : Cert.Pre_in_range.Facts] (m : (ℓ : Loc Cert.Take.nD Cert.Take.τ Cert.Take.sig) → Buf (Elt Bits) ℓ) : Prop :=
  ∀ c : Dev Cert.Take.nD,
    (Cert.Pre_in_range.fn (F := Bits) (m ((c.tc : Thread Cert.Take.nD Cert.Take.τ).loc Cert.Take.main_arg0)) (m ((c.tc : Thread Cert.Take.nD Cert.Take.τ).loc Cert.Take.main_arg1))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_ArgminIdeal (m : (ℓ : Loc Cert.ArgminIdeal.nD Cert.ArgminIdeal.τ Cert.ArgminIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_in_range : Cert.Pre_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_Take [hTake : Cert.Take.Facts] : Prop :=
  ∀ (m : (ℓ : Loc Cert.Take.nD Cert.Take.τ Cert.Take.sig) → Buf (Elt Bits) ℓ) (g : Dev Cert.Take.nD → PrngReg), Pre_Take m →
    θ_run (Cert.Take.defs (F := Bits)) (onTc (τ := Cert.Take.τ) (Cert.Take.main (F := Bits))) ⟨m, fun _ => 0, g⟩ (fun r => (∀ c : Dev Cert.Take.nD,
      r.2.mem ((c.tc : Thread Cert.Take.nD Cert.Take.τ).loc Cert.Take.main_arg0) = m ((c.tc : Thread Cert.Take.nD Cert.Take.τ).loc Cert.Take.main_arg0)
      ∧ r.2.mem ((c.tc : Thread Cert.Take.nD Cert.Take.τ).loc Cert.Take.main_arg1) = m ((c.tc : Thread Cert.Take.nD Cert.Take.τ).loc Cert.Take.main_arg1))
      ∧ r.2.sem = fun _ => 0)

def quiescent_Take_pre_in_range [hTake : Cert.Take.Facts] [hPre_in_range : Cert.Pre_in_range.Facts] : Prop :=
  ∀ (m : (ℓ : Loc Cert.Take.nD Cert.Take.τ Cert.Take.sig) → Buf (Elt Bits) ℓ) (g : Dev Cert.Take.nD → PrngReg), Pre_Take_in_range m →
    θ_run (Cert.Take.defs (F := Bits)) (onTc (τ := Cert.Take.τ) (Cert.Take.main (F := Bits))) ⟨m, fun _ => 0, g⟩ (fun r => (∀ c : Dev Cert.Take.nD,
      r.2.mem ((c.tc : Thread Cert.Take.nD Cert.Take.τ).loc Cert.Take.main_arg0) = m ((c.tc : Thread Cert.Take.nD Cert.Take.τ).loc Cert.Take.main_arg0)
      ∧ r.2.mem ((c.tc : Thread Cert.Take.nD Cert.Take.τ).loc Cert.Take.main_arg1) = m ((c.tc : Thread Cert.Take.nD Cert.Take.τ).loc Cert.Take.main_arg1))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_ArgminIdeal [hArgminIdeal : Cert.ArgminIdeal.Facts] : Prop :=
  ∀ (m : (ℓ : Loc Cert.ArgminIdeal.nD Cert.ArgminIdeal.τ Cert.ArgminIdeal.sig) → Buf (Elt Ideal) ℓ) (g : Dev Cert.ArgminIdeal.nD → PrngReg), Pre_ArgminIdeal m →
    θ_run (Cert.ArgminIdeal.defs (F := Ideal)) (onTc (τ := Cert.ArgminIdeal.τ) (Cert.ArgminIdeal.main (F := Ideal))) ⟨m, fun _ => 0, g⟩ (fun r => (∀ c : Dev Cert.ArgminIdeal.nD,
      r.2.mem ((c.tc : Thread Cert.ArgminIdeal.nD Cert.ArgminIdeal.τ).loc Cert.ArgminIdeal.main_arg0) = m ((c.tc : Thread Cert.ArgminIdeal.nD Cert.ArgminIdeal.τ).loc Cert.ArgminIdeal.main_arg0)
      ∧ r.2.mem ((c.tc : Thread Cert.ArgminIdeal.nD Cert.ArgminIdeal.τ).loc Cert.ArgminIdeal.main_arg1) = m ((c.tc : Thread Cert.ArgminIdeal.nD Cert.ArgminIdeal.τ).loc Cert.ArgminIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Gather_Take [hGather : Cert.Gather.Facts] [hTake : Cert.Take.Facts] [hPre_in_range : Cert.Pre_in_range.Facts] : Prop :=
  ∀ (m : (ℓ : Loc Cert.Gather.nD Cert.Gather.τ Cert.Gather.sig) → Buf (Elt Bits) ℓ) (g : Dev Cert.Gather.nD → PrngReg)
    (m' : (ℓ : Loc Cert.Take.nD Cert.Take.τ Cert.Take.sig) → Buf (Elt Bits) ℓ) (g' : Dev Cert.Take.nD → PrngReg), Pre_Gather m →
    (∀ c : Dev Cert.Gather.nD,
      m' ((c.tc : Thread Cert.Take.nD Cert.Take.τ).loc Cert.Take.main_arg0) = m ((c.tc : Thread Cert.Gather.nD Cert.Gather.τ).loc Cert.Gather.main_arg0)
      ∧ m' ((c.tc : Thread Cert.Take.nD Cert.Take.τ).loc Cert.Take.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v3)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v3) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Take.defs (F := Bits)) (onTc (τ := Cert.Take.τ) (Cert.Take.main (F := Bits))) ⟨m', fun _ => 0, g'⟩ (fun r => ∀ c : Dev Cert.Take.nD,
          r.2.mem ((c.tc : Thread Cert.Take.nD Cert.Take.τ).loc Cert.Take.main_v0) = v0 c
          ∧ r.2.mem ((c.tc : Thread Cert.Take.nD Cert.Take.τ).loc Cert.Take.main_arg0) = m' ((c.tc : Thread Cert.Take.nD Cert.Take.τ).loc Cert.Take.main_arg0)
          ∧ r.2.mem ((c.tc : Thread Cert.Take.nD Cert.Take.τ).loc Cert.Take.main_arg1) = m' ((c.tc : Thread Cert.Take.nD Cert.Take.τ).loc Cert.Take.main_arg1))

def preserves_Nearest_NearestIdeal : Prop :=
  True

def algebraic_NearestIdeal_ArgminIdeal [hNearestIdeal : Cert.NearestIdeal.Facts] [hArgminIdeal : Cert.ArgminIdeal.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.ArgminIdeal.nD Cert.ArgminIdeal.τ Cert.ArgminIdeal.sig) → Buf (Elt Ideal) ℓ) (g' : Dev Cert.ArgminIdeal.nD → PrngReg), Pre_NearestIdeal m →
    (∀ c : Dev Cert.NearestIdeal.nD,
      m' ((c.tc : Thread Cert.ArgminIdeal.nD Cert.ArgminIdeal.τ).loc Cert.ArgminIdeal.main_arg0) = m ((c.tc : Thread Cert.NearestIdeal.nD Cert.NearestIdeal.τ).loc Cert.NearestIdeal.main_arg0)
      ∧ m' ((c.tc : Thread Cert.ArgminIdeal.nD Cert.ArgminIdeal.τ).loc Cert.ArgminIdeal.main_arg1) = m ((c.tc : Thread Cert.NearestIdeal.nD Cert.NearestIdeal.τ).loc Cert.NearestIdeal.main_arg1)) →
    ∃ (v0 : (c : Dev Cert.NearestIdeal.nD) → Buf (Elt Ideal) ((c.tc : Thread Cert.NearestIdeal.nD Cert.NearestIdeal.τ).loc Cert.NearestIdeal.main_v2)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v2) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ θ_run (Cert.ArgminIdeal.defs (F := Ideal)) (onTc (τ := Cert.ArgminIdeal.τ) (Cert.ArgminIdeal.main (F := Ideal))) ⟨m', fun _ => 0, g'⟩ (fun r => ∀ c : Dev Cert.ArgminIdeal.nD,
          r.2.mem ((c.tc : Thread Cert.ArgminIdeal.nD Cert.ArgminIdeal.τ).loc Cert.ArgminIdeal.main_v14) = v0 c
          ∧ r.2.mem ((c.tc : Thread Cert.ArgminIdeal.nD Cert.ArgminIdeal.τ).loc Cert.ArgminIdeal.main_arg0) = m' ((c.tc : Thread Cert.ArgminIdeal.nD Cert.ArgminIdeal.τ).loc Cert.ArgminIdeal.main_arg0)
          ∧ r.2.mem ((c.tc : Thread Cert.ArgminIdeal.nD Cert.ArgminIdeal.τ).loc Cert.ArgminIdeal.main_arg1) = m' ((c.tc : Thread Cert.ArgminIdeal.nD Cert.ArgminIdeal.τ).loc Cert.ArgminIdeal.main_arg1))

def Claim : Prop :=
  ∃ (hKernelIdeal : Cert.KernelIdeal.Facts) (hReferenceIdeal : Cert.ReferenceIdeal.Facts) (hGather : Cert.Gather.Facts) (hTake : Cert.Take.Facts) (hNearest : Cert.Nearest.Facts) (hNearestIdeal : Cert.NearestIdeal.Facts) (hArgminIdeal : Cert.ArgminIdeal.Facts) (hPre_in_range : Cert.Pre_in_range.Facts),
    quiescent_KernelIdeal (hKernelIdeal := hKernelIdeal)
    ∧ quiescent_ReferenceIdeal (hReferenceIdeal := hReferenceIdeal)
    ∧ quiescent_Gather (hGather := hGather) (hPre_in_range := hPre_in_range)
    ∧ quiescent_Take (hTake := hTake)
    ∧ quiescent_Take_pre_in_range (hTake := hTake) (hPre_in_range := hPre_in_range)
    ∧ quiescent_Nearest (hNearest := hNearest)
    ∧ quiescent_NearestIdeal (hNearestIdeal := hNearestIdeal)
    ∧ quiescent_ArgminIdeal (hArgminIdeal := hArgminIdeal)
    ∧ algebraic_KernelIdeal_ReferenceIdeal (hKernelIdeal := hKernelIdeal) (hReferenceIdeal := hReferenceIdeal)
    ∧ bitexact_Gather_Take (hGather := hGather) (hTake := hTake) (hPre_in_range := hPre_in_range)
    ∧ preserves_Nearest_NearestIdeal
    ∧ algebraic_NearestIdeal_ArgminIdeal (hNearestIdeal := hNearestIdeal) (hArgminIdeal := hArgminIdeal)
-- ==== Pre_in_range.lean ====
abbrev S1024x64 : Shape := ⟨2, ![1024, 64]⟩
abbrev S32768 : Shape := ⟨1, ![32768]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S1024x64 .f32) (main_arg1 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 1024#32
  let main_v2 : IVec S32768 32 := broadcastInDim S32768 ![] bcast_S_S32768 main_c_0
  let main_v3 : IVec S32768 1 := cmpi .slt main_arg1 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== KernelIdeal.lean ====
abbrev S32768x64 : Shape := ⟨2, ![32768, 64]⟩
abbrev S1024x64 : Shape := ⟨2, ![1024, 64]⟩
abbrev S64x1024 : Shape := ⟨2, ![64, 1024]⟩
abbrev S_ : Shape := ⟨0, ![]⟩
abbrev S1024x128 : Shape := ⟨2, ![1024, 128]⟩
abbrev S64x512x1 : Shape := ⟨3, ![64, 512, 1]⟩
abbrev S512x64 : Shape := ⟨2, ![512, 64]⟩
abbrev S1x512x1 : Shape := ⟨3, ![1, 512, 1]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩
abbrev S256x128 : Shape := ⟨2, ![256, 128]⟩
abbrev S32768x128 : Shape := ⟨2, ![32768, 128]⟩
abbrev S8x128 : Shape := ⟨2, ![8, 128]⟩
abbrev S2x128x128 : Shape := ⟨3, ![2, 128, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Table → Nat
  | .hbm => 10
  | .local .tc .vmem => 5
  | .local .scVector .vmem => 2
  | _ => 0

abbrev bufTy : (tb : Table) → Fin (nBuf tb) → BufTy
  | .hbm, ⟨0, _⟩ => ⟨S32768x64, .f32⟩
  | .hbm, ⟨1, _⟩ => ⟨S1024x64, .f32⟩
  | .hbm, ⟨2, _⟩ => ⟨S64x1024, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S64x512x1, .i32⟩
  | .hbm, ⟨7, _⟩ => ⟨S256x128, .i32⟩
  | .hbm, ⟨8, _⟩ => ⟨S32768x128, .f32⟩
  | .hbm, ⟨9, _⟩ => ⟨S32768x64, .f32⟩
  | .local .tc .vmem, ⟨0, _⟩ => ⟨S512x64, .f32⟩
  | .local .tc .vmem, ⟨1, _⟩ => ⟨S512x64, .f32⟩
  | .local .tc .vmem, ⟨2, _⟩ => ⟨S64x1024, .f32⟩
  | .local .tc .vmem, ⟨3, _⟩ => ⟨S1x512x1, .i32⟩
  | .local .tc .vmem, ⟨4, _⟩ => ⟨S1x512x1, .i32⟩
  | .local .scVector .vmem, ⟨0, _⟩ => ⟨S8x128, .i32⟩
  | .local .scVector .vmem, ⟨1, _⟩ => ⟨S2x128x128, .f32⟩
  | _, _ => ⟨S32768x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v1_scv : Ref sig .scVector := ⟨.hbm, 5, rfl⟩
abbrev main_v3_scv : Ref sig .scVector := ⟨.hbm, 7, rfl⟩
abbrev main_v4_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_121_r0 : BitVec 32 := 0#32
  ![v2.toNat, 0]
def k1_off2 (i : grid1.Coords) (c0_i32_19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v18 : BitVec 32 := Scalar.muli v1 c1024_i32
  let v19 : BitVec 32 := Scalar.addi v18 c0_i32_19
  let c0_i32_123_r1 : BitVec 32 := 0#32
  ![v19.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x64 : Shape := ⟨2, ![32768, 64]⟩
abbrev S1024x64 : Shape := ⟨2, ![1024, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S64x1024 : Shape := ⟨2, ![64, 1024]⟩
abbrev S32768x1024 : Shape := ⟨2, ![32768, 1024]⟩
abbrev S1x1024 : Shape := ⟨2, ![1, 1024]⟩
abbrev S1 : Shape := ⟨1, ![1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S32768x64, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S64x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1024, .i32⟩
  | .hbm, ⟨20, _⟩ => ⟨S_, .f32⟩
  | .hbm, ⟨21, _⟩ => ⟨S_, .i32⟩
  | .hbm, ⟨22, _⟩ => ⟨S32768, .f32⟩
  | .hbm, ⟨23, _⟩ => ⟨S32768, .i32⟩
  | .hbm, ⟨24, _⟩ => ⟨S_, .i32⟩
  | .hbm, ⟨25, _⟩ => ⟨S32768, .i32⟩
  | .hbm, ⟨26, _⟩ => ⟨S32768, .i1⟩
  | .hbm, ⟨27, _⟩ => ⟨S_, .i32⟩
  | .hbm, ⟨28, _⟩ => ⟨S32768, .i32⟩
  | .hbm, ⟨29, _⟩ => ⟨S32768, .i32⟩
  | .hbm, ⟨30, _⟩ => ⟨S32768, .i32⟩
  | .hbm, ⟨31, _⟩ => ⟨S32768x1, .i32⟩
  | .hbm, ⟨32, _⟩ => ⟨S1, .i32⟩
  | .hbm, ⟨33, _⟩ => ⟨S_, .i32⟩
  | .hbm, ⟨34, _⟩ => ⟨S32768x1, .i32⟩
  | .hbm, ⟨35, _⟩ => ⟨S32768x1, .i1⟩
  | .hbm, ⟨36, _⟩ => ⟨S1x1, .i32⟩
  | .hbm, ⟨37, _⟩ => ⟨S32768x1, .i32⟩
  | .hbm, ⟨38, _⟩ => ⟨S32768x1, .i1⟩
  | .hbm, ⟨39, _⟩ => ⟨S32768x1, .i1⟩
  | .hbm, ⟨40, _⟩ => ⟨S_, .i1⟩
  | .hbm, ⟨41, _⟩ => ⟨S32768, .i1⟩
  | .hbm, ⟨42, _⟩ => ⟨S32768x64, .f32⟩
  | .hbm, ⟨43, _⟩ => ⟨S32768x64, .i1⟩
  | .hbm, ⟨44, _⟩ => ⟨S_, .f32⟩
  | .hbm, ⟨45, _⟩ => ⟨S32768x64, .f32⟩
  | .hbm, ⟨46, _⟩ => ⟨S32768x64, .f32⟩
  | .hbm, ⟨47, _⟩ => ⟨S_, .i32⟩
  | .hbm, ⟨48, _⟩ => ⟨S32768, .i32⟩
  | .hbm, ⟨49, _⟩ => ⟨S32768, .i1⟩
  | .hbm, ⟨50, _⟩ => ⟨S_, .i32⟩
  | .hbm, ⟨51, _⟩ => ⟨S32768, .i32⟩
  | .hbm, ⟨52, _⟩ => ⟨S32768, .i32⟩
  | .hbm, ⟨53, _⟩ => ⟨S32768, .i32⟩
  | .hbm, ⟨54, _⟩ => ⟨S32768x1, .i32⟩
  | .hbm, ⟨55, _⟩ => ⟨S1, .i32⟩
  | .hbm, ⟨56, _⟩ => ⟨S_, .i32⟩
  | .hbm, ⟨57, _⟩ => ⟨S32768x1, .i32⟩
  | .hbm, ⟨58, _⟩ => ⟨S32768x1, .i1⟩
  | .hbm, ⟨59, _⟩ => ⟨S1x1, .i32⟩
  | .hbm, ⟨60, _⟩ => ⟨S32768x1, .i32⟩
  | .hbm, ⟨61, _⟩ => ⟨S32768x1, .i1⟩
  | .hbm, ⟨62, _⟩ => ⟨S32768x1, .i1⟩
  | .hbm, ⟨63, _⟩ => ⟨S_, .i1⟩
  | .hbm, ⟨64, _⟩ => ⟨S32768, .i1⟩
  | .hbm, ⟨65, _⟩ => ⟨S32768x64, .f32⟩
  | .hbm, ⟨66, _⟩ => ⟨S32768x64, .i1⟩
  | .hbm, ⟨67, _⟩ => ⟨S_, .f32⟩
  | .hbm, ⟨68, _⟩ => ⟨S32768x64, .f32⟩
  | .hbm, ⟨69, _⟩ => ⟨S32768x64, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v16 : Ref sig .tc := ⟨.hbm, 69, rfl⟩

abbrev nD : Nat := 1
abbrev τ : Topo := Topo.v7x

variable {F : FTy → Type} [FloatOps F]
-- ==== Gather.lean ====
abbrev S1024x64 : Shape := ⟨2, ![1024, 64]⟩
abbrev S32768 : Shape := ⟨1, ![32768]⟩
abbrev S_ : Shape := ⟨0, ![]⟩
abbrev S1024x128 : Shape := ⟨2, ![1024, 128]⟩
abbrev S256x128 : Shape := ⟨2, ![256, 128]⟩
abbrev S32768x128 : Shape := ⟨2, ![32768, 128]⟩
abbrev S8x128 : Shape := ⟨2, ![8, 128]⟩
abbrev S2x128x128 : Shape := ⟨3, ![2, 128, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S32768x64 : Shape := ⟨2, ![32768, 64]⟩

abbrev nBuf : Table → Nat
  | .hbm => 8
  | .local .scVector .vmem => 2
  | _ => 0

abbrev bufTy : (tb : Table) → Fin (nBuf tb) → BufTy
  | .hbm, ⟨0, _⟩ => ⟨S1024x64, .f32⟩
  | .hbm, ⟨1, _⟩ => ⟨S32768, .i32⟩
  | .hbm, ⟨2, _⟩ => ⟨S_, .i32⟩
  | .hbm, ⟨3, _⟩ => ⟨S_, .f32⟩
  | .hbm, ⟨4, _⟩ => ⟨S1024x128, .f32⟩
  | .hbm, ⟨5, _⟩ => ⟨S256x128, .i32⟩
  | .hbm, ⟨6, _⟩ => ⟨S32768x128, .f32⟩
  | .hbm, ⟨7, _⟩ => ⟨S32768x64, .f32⟩
  | .local .scVector .vmem, ⟨0, _⟩ => ⟨S8x128, .i32⟩
  | .local .scVector .vmem, ⟨1, _⟩ => ⟨S2x128x128, .f32⟩
  | _, _ => ⟨S1024x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_121_r0 : BitVec 32 := 0#32
  ![v2.toNat, 0]
def k0_off2 (i : grid0.Coords) (c0_i32_19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v18 : BitVec 32 := Scalar.muli v1 c1024_i32
  let v19 : BitVec 32 := Scalar.addi v18 c0_i32_19
  let c0_i32_123_r1 : BitVec 32 := 0#32
  ![v19.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Take.lean ====
abbrev S1024x64 : Shape := ⟨2, ![1024, 64]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x64 : Shape := ⟨2, ![32768, 64]⟩

abbrev nBuf : Space → Nat
  | .hbm => 25
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S32768, .i32⟩
  | .hbm, ⟨2, _⟩ => ⟨S_, .i32⟩
  | .hbm, ⟨3, _⟩ => ⟨S32768, .i32⟩
  | .hbm, ⟨4, _⟩ => ⟨S32768, .i1⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S32768x1, .i32⟩
  | .hbm, ⟨10, _⟩ => ⟨S1, .i32⟩
  | .hbm, ⟨11, _⟩ => ⟨S_, .i32⟩
  | .hbm, ⟨12, _⟩ => ⟨S32768x1, .i32⟩
  | .hbm, ⟨13, _⟩ => ⟨S32768x1, .i1⟩
  | .hbm, ⟨14, _⟩ => ⟨S1x1, .i32⟩
  | .hbm, ⟨15, _⟩ => ⟨S32768x1, .i32⟩
  | .hbm, ⟨16, _⟩ => ⟨S32768x1, .i1⟩
  | .hbm, ⟨17, _⟩ => ⟨S32768x1, .i1⟩
  | .hbm, ⟨18, _⟩ => ⟨S_, .i1⟩
  | .hbm, ⟨19, _⟩ => ⟨S32768, .i1⟩
  | .hbm, ⟨20, _⟩ => ⟨S32768x64, .f32⟩
  | .hbm, ⟨21, _⟩ => ⟨S32768x64, .i1⟩
  | .hbm, ⟨22, _⟩ => ⟨S_, .f32⟩
  | .hbm, ⟨23, _⟩ => ⟨S32768x64, .f32⟩
  | .hbm, ⟨24, _⟩ => ⟨S32768x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Nearest.lean ====
abbrev S32768x64 : Shape := ⟨2, ![32768, 64]⟩
abbrev S1024x64 : Shape := ⟨2, ![1024, 64]⟩
abbrev S64x1024 : Shape := ⟨2, ![64, 1024]⟩
abbrev S64x512x1 : Shape := ⟨3, ![64, 512, 1]⟩
abbrev S512x64 : Shape := ⟨2, ![512, 64]⟩
abbrev S1x512x1 : Shape := ⟨3, ![1, 512, 1]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩
abbrev S32768 : Shape := ⟨1, ![32768]⟩

abbrev nBuf : Space → Nat
  | .hbm => 5
  | .vmem => 5
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S64x1024, .f32⟩
  | .hbm, ⟨3, _⟩ => ⟨S64x512x1, .i32⟩
  | .hbm, ⟨4, _⟩ => ⟨S32768, .i32⟩
  | .local _ .vmem, ⟨0, _⟩ => ⟨S512x64, .f32⟩
  | .local _ .vmem, ⟨1, _⟩ => ⟨S512x64, .f32⟩
  | .local _ .vmem, ⟨2, _⟩ => ⟨S64x1024, .f32⟩
  | .local _ .vmem, ⟨3, _⟩ => ⟨S1x512x1, .i32⟩
  | .local _ .vmem, ⟨4, _⟩ => ⟨S1x512x1, .i32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ArgminIdeal.lean ====
abbrev S32768x64 : Shape := ⟨2, ![32768, 64]⟩
abbrev S1024x64 : Shape := ⟨2, ![1024, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S64x1024 : Shape := ⟨2, ![64, 1024]⟩
abbrev S32768x1024 : Shape := ⟨2, ![32768, 1024]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S32768x64, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S64x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1024, .i32⟩
  | .hbm, ⟨20, _⟩ => ⟨S_, .f32⟩
  | .hbm, ⟨21, _⟩ => ⟨S_, .i32⟩
  | .hbm, ⟨22, _⟩ => ⟨S32768, .f32⟩
  | .hbm, ⟨23, _⟩ => ⟨S32768, .i32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Proof.Setup.lean ====
/-
  The kernel's program as the SparseCore launch theorem sees it, and the set-up every later module shares: the
  configuration, the ghost state, the buffers of @main by name, the pieces of them a vector subcore's task is handed,
  and the values they hold. Everything is stated for any float instance.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pipeline.Regions
public import proofs.«01_k».proof.Proof.Gen.KernelIdeal
public import proofs.«01_k».proof.Proof.Gen.KernelIdeal.Launch
public import proofs.«01_k».proof.Proof.Gen.KernelIdeal.Skeleton

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the TensorCore pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers -/

abbrev tLoc (d : Dev nD) : Loc nD τ sig := (SparseCore.T d).loc main_v1
abbrev iLoc (d : Dev nD) : Loc nD τ sig := (SparseCore.T d).loc main_v3
abbrev oLoc (d : Dev nD) : Loc nD τ sig := (SparseCore.T d).loc main_v4

local notation "tV" => (Memref.whole Cert.KernelIdeal.main_v1_scv : Memref Cert.KernelIdeal.sig Kind.scVector Space.hbm Cert.KernelIdeal.S1024x128 EltTy.f32)
local notation "iV" => (Memref.whole Cert.KernelIdeal.main_v3_scv : Memref Cert.KernelIdeal.sig Kind.scVector Space.hbm Cert.KernelIdeal.S256x128 EltTy.i32)
local notation "oV" => (Memref.whole Cert.KernelIdeal.main_v4_scv : Memref Cert.KernelIdeal.sig Kind.scVector Space.hbm Cert.KernelIdeal.S32768x128 EltTy.f32)
local notation "lV" => (Memref.whole Cert.KernelIdeal.cc1_scratch0 : Memref Cert.KernelIdeal.sig Kind.scVector Space.vmem Cert.KernelIdeal.S8x128 EltTy.i32)
local notation "gV" => (Memref.whole Cert.KernelIdeal.cc1_scratch1 : Memref Cert.KernelIdeal.sig Kind.scVector Space.vmem Cert.KernelIdeal.S2x128x128 EltTy.f32)

/-- The number of the task on SparseCore `c`, subcore `s`. -/
abbrev wid (p : Fin 2 × Fin 16) : Fin 32 := ⟨2 * p.2.val + p.1.val, by omega⟩
/-- The number of that task's `k`-th block of 128 output rows. -/
abbrev bid (p : (Fin 2 × Fin 16) × Fin 8) : Fin 256 := ⟨8 * (wid p.1).val + p.2.val, by have := (wid p.1).isLt; omega⟩

theorem idiv : 32 ∣ S256x128.size 0 := ⟨8, rfl⟩
theorem odiv : 256 ∣ S32768x128.size 0 := ⟨128, rfl⟩
/-- Task `w`'s eight rows of row numbers. -/
abbrev irow (w : Fin 32) : Rect S256x128 := Rect.part (s := S256x128) (a₀ := 0) idiv w
/-- The `b`-th block of 128 output rows. -/
abbrev oblk (b : Fin 256) : Rect S32768x128 := Rect.part (s := S32768x128) (a₀ := 0) odiv b
abbrev iRowSet (w : Fin 32) : Finset S256x128.Idx := ((iV).view.slice (irow w)).set
abbrev oBlkSet (b : Fin 256) : Finset S32768x128.Idx := ((oV).view.slice (oblk b)).set

/-! ## What the call leaves in its output -/

/-- Position `r` of the row numbers, laid out 256 by 128. -/
def ipos (r : Fin 32768) : S256x128.Idx := fun
  | 0 => (⟨r.val / 128, by omega⟩ : Fin 256)
  | 1 => (⟨r.val % 128, by omega⟩ : Fin 128)
/-- The table's element at row `n` (the last row when there is none) and lane `c`. -/
def tpos (n : ℕ) (c : Fin 128) : S1024x128.Idx := fun
  | 0 => (⟨min n 1023, by omega⟩ : Fin 1024)
  | 1 => c
/-- Output row `r` is the table's row named by the `r`-th row number. -/
def gathered {α : Type} (T : S1024x128.Idx → α) (I : S256x128.Idx → BitVec 32) : S32768x128.Idx → α :=
  fun x => T (tpos (I (ipos (x 0))).toNat (x 1))

end Cert.Proof.Ki

end
-- ==== Proof.Tile.lean ====
/-
  One vector subcore's task, at a symbolic (SparseCore, subcore) pair: it fetches its eight rows of row numbers, and
  eight times gathers the 128 table rows that one row of them names into one of two staging slots (the next gather
  started before the last one is copied out) and copies the slot to its block of the output.
-/
module

public import proofs.«01_k».proof.Proof.Setup

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S1024x128 EltTy.f32)
local notation "iV" => (Memref.whole Cert.KernelIdeal.main_v3_scv : Memref Cert.KernelIdeal.sig Kind.scVector Space.hbm Cert.KernelIdeal.S256x128 EltTy.i32)
local notation "oV" => (Memref.whole Cert.KernelIdeal.main_v4_scv : Memref Cert.KernelIdeal.sig Kind.scVector Space.hbm Cert.KernelIdeal.S32768x128 EltTy.f32)
local notation "lV" => (Memref.whole Cert.KernelIdeal.cc1_scratch0 : Memref Cert.KernelIdeal.sig Kind.scVector Space.vmem Cert.KernelIdeal.S8x128 EltTy.i32)
local notation "gV" => (Memref.whole Cert.KernelIdeal.cc1_scratch1 : Memref Cert.KernelIdeal.sig Kind.scVector Space.vmem Cert.KernelIdeal.S2x128x128 EltTy.f32)

variable [FloatOps F]

section Tile

variable (d : Dev nD) (L : grid1.Coords)

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)
omit [FloatOps F] in
theorem bound_zero : grid1.bound 0 = 2 := rfl
omit [FloatOps F] in
theorem bound_one : grid1.bound 1 = 16 := rfl
/-- The task's (SparseCore, subcore) pair. -/
abbrev pL (L : grid1.Coords) : Fin 2 × Fin 16 := (Fin.cast bound_zero (L 0), Fin.cast bound_one (L 1))

/-- The task's rows of row numbers, its eight output blocks, the two staging slots and the table, as the body
    addresses them. -/
abbrev irowK (L : grid1.Coords) : Rect S256x128 := Rect.unit (s := S256x128) (k1_off1 L) S8x128.size (k1_off1_inb L)
abbrev iRowK (L : grid1.Coords) : Memref sig .scVector .hbm S8x128 .i32 := (iV).slice (irowK L) (fun _ => rfl)
abbrev oblkK (L : grid1.Coords) (k : Fin 8) : Rect S32768x128 :=
  Rect.unit (s := S32768x128) (k1_off2 L (BitVec.ofNat 32 (128 * k.val))) S128x128.size (k1_off2_inb L k)
abbrev oBlkK (L : grid1.Coords) (k : Fin 8) : Memref sig .scVector .hbm S128x128 .f32 := (oV).slice (oblkK L k) (fun _ => rfl)
abbrev slot0 : Memref sig .scVector .vmem S128x128 .f32 :=
  ((gV).slice (Rect.unit (s := S2x128x128) ![0, 0, 0] S1x128x128.size inb_S2x128x128_S1x128x128_0_0_0) (fun _ => rfl)).squeeze S128x128 squeezes_S1x128x128_S128x128
abbrev slot1 : Memref sig .scVector .vmem S128x128 .f32 :=
  ((gV).slice (Rect.unit (s := S2x128x128) ![1, 0, 0] S1x128x128.size inb_S2x128x128_S1x128x128_1_0_0) (fun _ => rfl)).squeeze S128x128 squeezes_S1x128x128_S128x128

/-- The ten DMA cells the task names. -/
abbrev csem (k : Nat) (hk : k < 10 := by decide) : DmaSem sig := ⟨5 + k, by show 5 + k < 15; omega⟩
abbrev dcell (d : Dev nD) (c : Fin τ.nSC) (i : Fin τ.nSub) (k : Fin 10) : GSem nD τ sig := (V d c i, .dma (csem k.val k.isLt))
abbrev cells0 (d : Dev nD) (L : grid1.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0)

/-- What the index fetch lands in the task's list buffer: its rows of the row numbers. -/
abbrev PAY (I : Buf (Elt F) (iLoc d)) : S8x128.Idx → Elt F .i32 := ReadAs.same.apply ((iRowK L).view.read (Elt F) I)

omit [FloatOps F] in
theorem PAY_apply (I : Buf (Elt F) (iLoc d)) (x : S8x128.Idx) : PAY d L I x = I ((iRowK L).view.emb x) :=
  (View.read_apply _ _).trans (cast_eq _ _)

omit [FloatOps F] in
/-- Every row of the fetched list names table rows only. -/
theorem inb_of_lt (I : Buf (Elt F) (iLoc d)) (hI : ∀ j, (I j : BitVec 32).toNat < 1024) (g0 : Buf (Elt F) ((lV).view.loc (VT d L)))
    (pay : S8x128.Idx → Elt F .i32) (hpay : pay = PAY d L I) (row : Fin 2 → Nat)
    (hk : ∀ a, row a + S1x128.size a ≤ S8x128.size a) (hq : (Rect.unit (s := S8x128) row S1x128.size hk).shape.Squeezes S128) :
    ∀ x, (View.read (Elt F) (((lV).slice (Rect.unit (s := S8x128) row S1x128.size hk) (fun _ => rfl)).squeeze S128 hq).view
      ((lV).view.writes (Elt F) g0 [⟨Rect.whole cc1_scratch0.ty.shape, pay⟩]) x).toNat < 1024 := by
  subst hpay; intro x
  have e : View.read (Elt F) (((lV).slice (Rect.unit (s := S8x128) row S1x128.size hk) (fun _ => rfl)).squeeze S128 hq).view
        ((lV).view.writes (Elt F) g0 [⟨Rect.whole cc1_scratch0.ty.shape, PAY d L I⟩]) x
      = View.read (Elt F) (lV).view ((lV).view.writes (Elt F) g0 [⟨Rect.whole cc1_scratch0.ty.shape, PAY d L I⟩])
          ((Rect.unit (s := S8x128) row S1x128.size hk).emb ((Shape.reshapeEquiv hq.numel_eq) x)) := by
    rw [View.read_apply, View.read_apply]; rfl
  rw [e, View.read_writes_whole, PAY_apply]
  exact hI _

/-! ### The values -/

/-- The table as the body addresses it, and row `k` of the list buffer. -/
abbrev tAll : Memref sig .scVector .hbm S1024x128 .f32 :=
  (tV).slice (Rect.unit (s := S1024x128) ![0, 0] S1024x128.size inb_S1024x128_S1024x128_0_0) (fun _ => rfl)
abbrev lRow (row : Fin 2 → Nat) (hk : ∀ a, row a + S1x128.size a ≤ S8x128.size a) : Memref sig .scVector .vmem S128 .i32 :=
  ((lV).slice (Rect.unit (s := S8x128) row S1x128.size hk) (fun _ => rfl)).squeeze S128 squeezes_S1x128_S128

/-- The list buffer once the fetch has landed. -/
abbrev lst (I : Buf (Elt F) (iLoc d)) (g : Buf (Elt F) ((lV).view.loc (VT d L))) : Buf (Elt F) ((lV).view.loc (VT d L)) :=
  (lV).view.writes (Elt F) g [⟨Rect.whole cc1_scratch0.ty.shape, PAY d L I⟩]

omit [FloatOps F] in
/-- Element `y` of output block `k` lies `128 k + y 0` rows into the task's rows. -/
theorem oBlkK_emb (k : Fin 8) (y : S128x128.Idx) :
    ((oBlkK L k).view.emb y 0).val = 2048 * (L 1).val + 1024 * (L 0).val + 128 * k.val + (y 0).val
      ∧ ((oBlkK L k).view.emb y 1).val = (y 1).val := by
  refine ⟨?_, ?_⟩
  · show k1_off2 L (BitVec.ofNat 32 (128 * k.val)) 0 + 1 * (y 0).val = _
    rw [k1_off2_eq]; simp
  · show k1_off2 L (BitVec.ofNat 32 (128 * k.val)) 1 + 1 * (y 1).val = _
    rw [k1_off2_eq]; simp

omit [FloatOps F] in
/-- Word `j` of list row `k` is the row number of output row `128 k + j` of the task. -/
theorem lst_read (I : Buf (Elt F) (iLoc d)) (g : Buf (Elt F) ((lV).view.loc (VT d L))) (k : Fin 8) (row : Fin 2 → Nat)
    (hk : ∀ a, row a + S1x128.size a ≤ S8x128.size a) (h0 : row 0 = k.val) (h1 : row 1 = 0) (x : S128.Idx) (y : S128x128.Idx) (hxy : (x 0).val = (y 0).val) :
    View.read (Elt F) (lRow row hk).view (lst d L I g) x = I (ipos ((oBlkK L k).view.emb y 0)) := by
  have e : View.read (Elt F) (lRow row hk).view (lst d L I g) x
      = View.read (Elt F) (lV).view (lst d L I g)
          ((Rect.unit (s := S8x128) row S1x128.size hk).emb ((Shape.reshapeEquiv squeezes_S1x128_S128.numel_eq) x)) := by
    rw [View.read_apply, View.read_apply]; rfl
  have hq : ∀ x : S128.Idx, ((Shape.reshapeEquiv (s := S1x128) (s' := S128) squeezes_S1x128_S128.numel_eq) x 1).val = (x 0).val := by
    decide +kernel
  have ho := (oBlkK_emb L k y).1
  have hL0 : (L 0).val < 2 := (L 0).isLt
  have hL1 : (L 1).val < 16 := (L 1).isLt
  have hy : (y 0).val < 128 := (y 0).isLt
  have hkk := k.isLt
  rw [e, View.read_writes_whole, PAY_apply]
  congr 1; funext a
  match a with
  | 0 =>
    apply Fin.ext
    show k1_off1 L 0 + 1 * (row 0 + 1 * ((Shape.reshapeEquiv (s := S1x128) (s' := S128) squeezes_S1x128_S128.numel_eq) x 0).val) = ((oBlkK L k).view.emb y 0).val / 128
    have hz : ((Shape.reshapeEquiv (s := S1x128) (s' := S128) squeezes_S1x128_S128.numel_eq) x 0).val < 1 := Fin.isLt _
    rw [k1_off1_eq, h0, ho]; simp; omega
  | 1 =>
    apply Fin.ext
    show k1_off1 L 1 + 1 * (row 1 + 1 * ((Shape.reshapeEquiv (s := S1x128) (s' := S128) squeezes_S1x128_S128.numel_eq) x 1).val) = ((oBlkK L k).view.emb y 0).val % 128
    rw [k1_off1_eq, h1, hq, ho, hxy]; simp; omega

omit [FloatOps F] in
/-- The gather of list row `k` brings block `k` of the gathered table. -/
theorem gather_eq (T : Buf (Elt F) (tLoc d)) (I : Buf (Elt F) (iLoc d)) (hI : ∀ j, (I j : BitVec 32).toNat < 1024)
    (g : Buf (Elt F) ((lV).view.loc (VT d L))) (k : Fin 8) (row : Fin 2 → Nat)
    (hk : ∀ a, row a + S1x128.size a ≤ S8x128.size a) (h0 : row 0 = k.val) (h1 : row 1 = 0) (hn) (hin) (y : S128x128.Idx) :
    SparseCore.gatherPayload gathers_S1024x128_S128x128 (View.read (Elt F) (tAll).view T)
        (SparseCore.rows (F := F) (si := S128) (View.read (Elt F) (lRow row hk).view (lst d L I g)) hn hin) y
      = gathered T I ((oBlkK L k).view.emb y) := by
  unfold SparseCore.gatherPayload gathered
  rw [View.read_apply]
  refine (cast_eq _ _).trans ?_
  congr 1; funext a
  match a with
  | 0 =>
    apply Fin.ext
    have hw := lst_read d L I g k row hk h0 h1 (S128.rowMajor.symm ((y 0).cast hn.symm)) y
      ((Shape.rowMajor_val_one _).symm.trans (congrArg Fin.val (S128.rowMajor.apply_symm_apply ((y 0).cast hn.symm))))
    have e : (gathers_S1024x128_S128x128.idx (SparseCore.rows (F := F) (si := S128) (View.read (Elt F) (lRow row hk).view (lst d L I g)) hn hin) y 0)
        = SparseCore.rows (F := F) (si := S128) (View.read (Elt F) (lRow row hk).view (lst d L I g)) hn hin (y 0) :=
      Shape.Gathers.idx_axis gathers_S1024x128_S128x128 _ y
    have hlt := hI (ipos ((oBlkK L k).view.emb y 0))
    show 0 + 1 * (gathers_S1024x128_S128x128.idx _ y 0).val = min _ 1023
    rw [e]
    show 0 + 1 * (View.read (Elt F) (lRow row hk).view (lst d L I g) (S128.rowMajor.symm ((y 0).cast hn.symm)) : BitVec 32).toNat = _
    rw [hw]; omega
  | 1 =>
    apply Fin.ext
    show 0 + 1 * (gathers_S1024x128_S128x128.idx _ y 1).val = ((oBlkK L k).view.emb y 1).val
    rw [Shape.Gathers.idx_of_ne gathers_S1024x128_S128x128 _ y 1 (by decide), (oBlkK_emb L k y).2]
    show 0 + 1 * (y 1).val = _
    omega

omit [FloatOps F] in
/-- A block written whole with the gathered table's values is that block of the gathered table. -/
theorem oBlkK_written (T : Buf (Elt F) (tLoc d)) (I : Buf (Elt F) (iLoc d)) (k : Fin 8) (o0 : Buf (Elt F) (oLoc d)) (pay : S128x128.Idx → Elt F .f32)
    (hpay : ∀ y, pay y = gathered T I ((oBlkK L k).view.emb y)) :
    ((oBlkK L k).view.loc (VT d L) ↦[(oBlkK L k).view.set]{fullShare} (oBlkK L k).view.writes (Elt F) o0 [⟨Rect.whole S128x128, pay⟩] : sProp 𝕄)
      = (oBlkK L k).view.loc (VT d L) ↦[(oBlkK L k).view.set]{fullShare} gathered T I := by
  refine pointsTo_congr fun i hi => ?_
  obtain ⟨y, -, rfl⟩ := Finset.mem_map.mp hi
  have h := congrFun (View.read_writes_whole (oBlkK L k).view o0 pay) y
  rw [View.read_apply] at h
  exact ((cast_eq _ _).symm.trans h).trans (hpay y)

omit [FloatOps F] in
/-- A staging slot reads back the last gather that filled it. -/
theorem slot_read (v : View sig .scVector .vmem S128x128 .f32) (g : v.ty.Contents (Elt F)) (p : S128x128.Idx → Elt F .f32) (R : List _) (y : S128x128.Idx) :
    ReadAs.same.apply (v.read (Elt F) (v.writes (Elt F) g (⟨Rect.whole S128x128, p⟩ :: R))) y = p y := by
  have h := View.read_writes_cons_emb v g (Rect.whole S128x128) p R y
  rwa [Rect.emb_whole_apply] at h

/-- The task's body run from the pieces the launch dealt it, in the body's spelling. -/
theorem tile_run (T : Buf (Elt F) (tLoc d)) (I : Buf (Elt F) (iLoc d)) (hI : ∀ j, (I j : BitVec 32).toNat < 1024)
    (O : CellTallies nD τ sig (HIx 1)) (W : Waits sig (HIx 1)) (q : PosShare TreeShare)
    (o0 : Buf (Elt F) (oLoc d)) (l0 : Buf (Elt F) ((lV).view.loc (VT d L))) (g0 : Buf (Elt F) ((gV).view.loc (VT d L))) (g1 : Buf (Elt F) ((gV).view.loc (VT d L))) :
    (iprop(Transfers.MayWaits (VT d L) (default : HIx 1) O
        ∗ ((iRowK L).view.loc (VT d L) ↦[(iRowK L).view.set]{fullShare} I)
        ∗ ((tV).view.loc (VT d L) ↦{q} T)
        ∗ ((oBlkK L 0).view.loc (VT d L) ↦[(oBlkK L 0).view.set]{fullShare} o0)
        ∗ ((oBlkK L 1).view.loc (VT d L) ↦[(oBlkK L 1).view.set]{fullShare} o0)
        ∗ ((oBlkK L 2).view.loc (VT d L) ↦[(oBlkK L 2).view.set]{fullShare} o0)
        ∗ ((oBlkK L 3).view.loc (VT d L) ↦[(oBlkK L 3).view.set]{fullShare} o0)
        ∗ ((oBlkK L 4).view.loc (VT d L) ↦[(oBlkK L 4).view.set]{fullShare} o0)
        ∗ ((oBlkK L 5).view.loc (VT d L) ↦[(oBlkK L 5).view.set]{fullShare} o0)
        ∗ ((oBlkK L 6).view.loc (VT d L) ↦[(oBlkK L 6).view.set]{fullShare} o0)
        ∗ ((oBlkK L 7).view.loc (VT d L) ↦[(oBlkK L 7).view.set]{fullShare} o0)
        ∗ ((lV).view.loc (VT d L) ↦[(lV).view.set]{fullShare} l0)
        ∗ ((slot0).view.loc (VT d L) ↦[(slot0).view.set]{fullShare} g0)
        ∗ ((slot1).view.loc (VT d L) ↦[(slot1).view.set]{fullShare} g1)
        ∗ cells0 d L
        ∗ owes (VT d L) O W) : sProp 𝕄)
      ⊢ wp frame (wpE (defs₀ (F := F)) 𝒱₀ (VT d L) none) Set.univ
          (cc1__gather_body L tV (Memref.isWhole_whole _) iV (Memref.isWhole_whole _) oV (Memref.isWhole_whole _)
            lV (Memref.isWhole_whole _) gV (Memref.isWhole_whole _) cc1_scratch2 cc1_scoped0 cc1_scoped1 cc1_scoped2 cc1_scoped3
            cc1_scoped4 cc1_scoped5 cc1_scoped6 cc1_scoped7 cc1_scoped8)
          fun _ => iprop(((iRowK L).view.loc (VT d L) ↦[(iRowK L).view.set]{fullShare} I)
            ∗ ((tV).view.loc (VT d L) ↦{q} T)
            ∗ ((oBlkK L 0).view.loc (VT d L) ↦[(oBlkK L 0).view.set]{fullShare} gathered T I)
            ∗ ((oBlkK L 1).view.loc (VT d L) ↦[(oBlkK L 1).view.set]{fullShare} gathered T I)
            ∗ ((oBlkK L 2).view.loc (VT d L) ↦[(oBlkK L 2).view.set]{fullShare} gathered T I)
            ∗ ((oBlkK L 3).view.loc (VT d L) ↦[(oBlkK L 3).view.set]{fullShare} gathered T I)
            ∗ ((oBlkK L 4).view.loc (VT d L) ↦[(oBlkK L 4).view.set]{fullShare} gathered T I)
            ∗ ((oBlkK L 5).view.loc (VT d L) ↦[(oBlkK L 5).view.set]{fullShare} gathered T I)
            ∗ ((oBlkK L 6).view.loc (VT d L) ↦[(oBlkK L 6).view.set]{fullShare} gathered T I)
            ∗ ((oBlkK L 7).view.loc (VT d L) ↦[(oBlkK L 7).view.set]{fullShare} gathered T I)
            ∗ (∃ g, (lV).view.loc (VT d L) ↦[(lV).view.set]{fullShare} g)
            ∗ (∃ g, (slot0).view.loc (VT d L) ↦[(slot0).view.set]{fullShare} g)
            ∗ (∃ g, (slot1).view.loc (VT d L) ↦[(slot1).view.set]{fullShare} g)
            ∗ cells0 d L
            ∗ ∃ W', ⌜∀ p ∈ W', p ∈ W ∨ p.2 = none⌝ ∗ owes (VT d L) O W') := by
  iintro ⟨#Hmw, HI, HT, HO0, HO1, HO2, HO3, HO4, HO5, HO6, HO7, HL, HG0, HG1, ⟨Hc0, Hc1, Hc2, Hc3, Hc4, Hc5, Hc6, Hc7, Hc8, Hc9⟩, HO⟩
  have hin := fun g => inb_of_lt d L I hI g (PAY d L I) rfl
  sl_unfold [cc1__gather_body]
  sl_exec
  have hp0 : ∀ y, tile_run.sl.dma0_1 d L T I g0 hin y = gathered T I ((oBlkK L 0).view.emb y) := fun y =>
    (slot_read (slot0).view g0 _ _ y).trans (gather_eq d L T I hI (lV).view.junk 0 ![0, 0] inb_S8x128_S1x128_0_0 rfl rfl _ _ y)
  ihave HO0' := (Entails.of_eq (oBlkK_written d L T I 0 o0 _ hp0)) $$ HO0
  have hp1 : ∀ y, tile_run.sl.dma0_2 d L T I g1 hin y = gathered T I ((oBlkK L 1).view.emb y) := fun y =>
    (slot_read (slot1).view g1 _ _ y).trans (gather_eq d L T I hI (lV).view.junk 1 ![1, 0] inb_S8x128_S1x128_1_0 rfl rfl _ _ y)
  ihave HO1' := (Entails.of_eq (oBlkK_written d L T I 1 o0 _ hp1)) $$ HO1
  have hp2 : ∀ y, tile_run.sl.dma0_3 d L T I g0 hin y = gathered T I ((oBlkK L 2).view.emb y) := fun y =>
    (slot_read (slot0).view g0 _ _ y).trans (gather_eq d L T I hI (lV).view.junk 2 ![2, 0] inb_S8x128_S1x128_2_0 rfl rfl _ _ y)
  ihave HO2' := (Entails.of_eq (oBlkK_written d L T I 2 o0 _ hp2)) $$ HO2
  have hp3 : ∀ y, tile_run.sl.dma0_4 d L T I g1 hin y = gathered T I ((oBlkK L 3).view.emb y) := fun y =>
    (slot_read (slot1).view g1 _ _ y).trans (gather_eq d L T I hI (lV).view.junk 3 ![3, 0] inb_S8x128_S1x128_3_0 rfl rfl _ _ y)
  ihave HO3' := (Entails.of_eq (oBlkK_written d L T I 3 o0 _ hp3)) $$ HO3
  have hp4 : ∀ y, tile_run.sl.dma0_5 d L T I g0 hin y = gathered T I ((oBlkK L 4).view.emb y) := fun y =>
    (slot_read (slot0).view g0 _ _ y).trans (gather_eq d L T I hI (lV).view.junk 4 ![4, 0] inb_S8x128_S1x128_4_0 rfl rfl _ _ y)
  ihave HO4' := (Entails.of_eq (oBlkK_written d L T I 4 o0 _ hp4)) $$ HO4
  have hp5 : ∀ y, tile_run.sl.dma0_6 d L T I g1 hin y = gathered T I ((oBlkK L 5).view.emb y) := fun y =>
    (slot_read (slot1).view g1 _ _ y).trans (gather_eq d L T I hI (lV).view.junk 5 ![5, 0] inb_S8x128_S1x128_5_0 rfl rfl _ _ y)
  ihave HO5' := (Entails.of_eq (oBlkK_written d L T I 5 o0 _ hp5)) $$ HO5
  have hp6 : ∀ y, tile_run.sl.dma0_7 d L T I g0 hin y = gathered T I ((oBlkK L 6).view.emb y) := fun y =>
    (slot_read (slot0).view g0 _ _ y).trans (gather_eq d L T I hI (lV).view.junk 6 ![6, 0] inb_S8x128_S1x128_6_0 rfl rfl _ _ y)
  ihave HO6' := (Entails.of_eq (oBlkK_written d L T I 6 o0 _ hp6)) $$ HO6
  have hp7 : ∀ y, tile_run.sl.dma0_8 d L T I g1 hin y = gathered T I ((oBlkK L 7).view.emb y) := fun y =>
    (slot_read (slot1).view g1 _ _ y).trans (gather_eq d L T I hI (lV).view.junk 7 ![7, 0] inb_S8x128_S1x128_7_0 rfl rfl _ _ y)
  ihave HO7' := (Entails.of_eq (oBlkK_written d L T I 7 o0 _ hp7)) $$ HO7
  sl_step
  isplitl [HI]; · iexact HI
  isplitl [HT]; · iexact HT
  isplitl [HO0']; · iexact HO0'
  isplitl [HO1']; · iexact HO1'
  isplitl [HO2']; · iexact HO2'
  isplitl [HO3']; · iexact HO3'
  isplitl [HO4']; · iexact HO4'
  isplitl [HO5']; · iexact HO5'
  isplitl [HO6']; · iexact HO6'
  isplitl [HO7']; · iexact HO7'
  isplitl [HL]; · iexists _; iexact HL
  isplitl [HG0]; · iexists _; iexact HG0
  isplitl [HG1]; · iexists _; iexact HG1
  isplitl [Hc0 Hc1 Hc2 Hc3 Hc4 Hc5 Hc6 Hc7 Hc8 Hc9]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact Hc9
  iexists _; isplitr
  swap; · iexact HO
  ipureintro; intro p hp
  repeat' (rcases Finset.mem_insert.mp hp with hp | hp; · exact .inr (hp ▸ rfl))
  exact .inl hp

end Tile

end Cert.Proof.Ki

end
-- ==== Proof.Obl.lean ====
/-
  What the SparseCore call hands each vector subcore and gets back, and the proof that the subcore's task turns the one
  into the other: its rows of row numbers, a share of the table, and its eight blocks of the output.
-/
module

public import proofs.«01_k».proof.Proof.Tile

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S1024x128 EltTy.f32)
local notation "iV" => (Memref.whole Cert.KernelIdeal.main_v3_scv : Memref Cert.KernelIdeal.sig Kind.scVector Space.hbm Cert.KernelIdeal.S256x128 EltTy.i32)
local notation "oV" => (Memref.whole Cert.KernelIdeal.main_v4_scv : Memref Cert.KernelIdeal.sig Kind.scVector Space.hbm Cert.KernelIdeal.S32768x128 EltTy.f32)
local notation "lV" => (Memref.whole Cert.KernelIdeal.cc1_scratch0 : Memref Cert.KernelIdeal.sig Kind.scVector Space.vmem Cert.KernelIdeal.S8x128 EltTy.i32)
local notation "gV" => (Memref.whole Cert.KernelIdeal.cc1_scratch1 : Memref Cert.KernelIdeal.sig Kind.scVector Space.vmem Cert.KernelIdeal.S2x128x128 EltTy.f32)

/-! ## The pieces of one task -/

/-- Task `w`'s share of the table. -/
abbrev tq (w : Fin 32) : PosShare TreeShare := pieceOf fullShare 32 (by decide) w

/-- What task `p` holds of the call's operands: its rows of row numbers, its share of the table, its blocks of `o`. -/
abbrev pieces (d : Dev nD) (T : Buf (Elt F) (tLoc d)) (I : Buf (Elt F) (iLoc d)) (o : Buf (Elt F) (oLoc d)) (p : Fin 2 × Fin 16) : sProp 𝕄 :=
  iprop((iLoc d ↦[iRowSet (wid p)]{fullShare} I) ∗ (tLoc d ↦{tq (wid p)} T)
    ∗ bigSep Finset.univ fun k : Fin 8 => oLoc d ↦[oBlkSet (bid (p, k))]{fullShare} o)

abbrev castP (c : Fin ((K (F := F)).nCore 0)) (i : Fin ((K (F := F)).nSub 0)) : Fin 2 × Fin 16 := (Fin.cast nCore_zero c, Fin.cast nSub_zero i)

variable (T : (d : Dev nD) → Buf (Elt F) (tLoc d)) (I : (d : Dev nD) → Buf (Elt F) (iLoc d)) (o0 : (d : Dev nD) → Buf (Elt F) (oLoc d))

/-- The call takes every task's pieces with the output as it stood, and brings them back with the gathered rows. -/
def P : (K (F := F)).Pay (nD := nD) (Val := Elt F) (Name := ℕ) (U := UU) where
  st := fun q d c => match q with | 0 => bigSep Finset.univ fun i : Fin ((K (F := F)).nSub 0) => pieces d (T d) (I d) (o0 d) (castP c i)
  dn := fun q d c => match q with | 0 => bigSep Finset.univ fun i : Fin ((K (F := F)).nSub 0) => pieces d (T d) (I d) (gathered (T d) (I d)) (castP c i)
  go := fun q d c i => match q with | 0 => pieces d (T d) (I d) (o0 d) (castP c i)
  td := fun q d c i => match q with | 0 => pieces d (T d) (I d) (gathered (T d) (I d)) (castP c i)
  x := fun _ _ => iprop(emp)

instance P_storable : (P (F := F) T I o0).IsStorable where
  st q d c := match q with
    | 0 => (inferInstance : BI.Storable (upEmb : UEmb _ 𝕄) (bigSep Finset.univ fun i : Fin ((K (F := F)).nSub 0) => pieces d (T d) (I d) (o0 d) (castP c i)))
  dn q d c := match q with
    | 0 => (inferInstance : BI.Storable (upEmb : UEmb _ 𝕄) (bigSep Finset.univ fun i : Fin ((K (F := F)).nSub 0) => pieces d (T d) (I d) (gathered (T d) (I d)) (castP c i)))
  go q d c i := match q with
    | 0 => (inferInstance : BI.Storable (upEmb : UEmb _ 𝕄) (pieces d (T d) (I d) (o0 d) (castP c i)))
  td q d c i := match q with
    | 0 => (inferInstance : BI.Storable (upEmb : UEmb _ 𝕄) (pieces d (T d) (I d) (gathered (T d) (I d)) (castP c i)))

theorem vecSplit : (K (F := F)).VecSplit' (P T I o0) 0 := by
  intro d c
  show (bigSep Finset.univ fun i : Fin ((K (F := F)).nSub 0) => pieces d (T d) (I d) (o0 d) (castP c i)) ⊢ |={Set.univ}=> iprop(
      (bigSep Finset.univ fun i : Fin ((K (F := F)).nSub 0) => pieces d (T d) (I d) (o0 d) (castP c i))
      ∗ ((bigSep Finset.univ fun i : Fin ((K (F := F)).nSub 0) => pieces d (T d) (I d) (gathered (T d) (I d)) (castP c i))
          -∗ (bigSep Finset.univ fun i : Fin ((K (F := F)).nSub 0) => pieces d (T d) (I d) (gathered (T d) (I d)) (castP c i))))
  iintro H; imodintro
  isplitl [H]; · iexact H
  iintro H; iexact H

/-! ## The pieces as the body addresses them -/

section Tile

variable (d : Dev nD) (L : grid1.Coords)

theorem irowK_eq : irowK L = irow (wid (pL L)) := by
  unfold irowK irow Rect.part Rect.block
  congr 1 <;> funext a
  · rw [k1_off1_eq]
    match a with
    | 0 =>
      simp [Shape.partIx, Shape.partSize, -Fin.val_cast]
      show 16 * (L 1).val + 8 * (L 0).val = (2 * (L 1).val + (L 0).val) * 8
      ring
    | 1 => simp [Shape.partIx, Shape.partSize]
  · match a with
    | 0 => simp [Shape.partSize]
    | 1 => simp [Shape.partSize]
theorem oblkK_eq (k : Fin 8) : oblkK L k = oblk (bid (pL L, k)) := by
  unfold oblkK oblk Rect.part Rect.block
  congr 1 <;> funext a
  · rw [k1_off2_eq]
    match a with
    | 0 =>
      simp [Shape.partIx, Shape.partSize, -Fin.val_cast]
      show 2048 * (L 1).val + 1024 * (L 0).val + 128 * k.val = (8 * (2 * (L 1).val + (L 0).val) + k.val) * 128
      ring
    | 1 => simp [Shape.partIx, Shape.partSize]
  · match a with
    | 0 => simp [Shape.partSize]
    | 1 => simp [Shape.partSize]

theorem set_iRowK : (iRowK L).view.set = iRowSet (wid (pL L)) := by
  show ((iV).view.slice (irowK L)).set = ((iV).view.slice (irow (wid (pL L)))).set
  rw [irowK_eq]
theorem set_oBlkK (k : Fin 8) : (oBlkK L k).view.set = oBlkSet (bid (pL L, k)) := by
  show ((oV).view.slice (oblkK L k)).set = ((oV).view.slice (oblk (bid (pL L, k)))).set
  rw [oblkK_eq]

theorem pts_iRowK (f : Buf (Elt F) (iLoc d)) :
    ((iRowK L).view.loc (VT d L) ↦[(iRowK L).view.set]{fullShare} f : sProp 𝕄) = iLoc d ↦[iRowSet (wid (pL L))]{fullShare} f := by
  rw [set_iRowK]
theorem pts_oBlkK (k : Fin 8) (f : Buf (Elt F) (oLoc d)) :
    ((oBlkK L k).view.loc (VT d L) ↦[(oBlkK L k).view.set]{fullShare} f : sProp 𝕄) = oLoc d ↦[oBlkSet (bid (pL L, k))]{fullShare} f := by
  rw [set_oBlkK]

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  iterate 7 rw [SparseCore.bigSep_insert' (by decide)]
  rw [bigSep_singleton]

theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  iterate 9 rw [SparseCore.bigSep_insert' (by decide)]
  rw [bigSep_singleton]

/-! ### The staging buffer's two slots -/

theorem gdiv : 2 ∣ S2x128x128.size 0 := ⟨1, rfl⟩
abbrev gpart (k : Fin 2) : Rect S2x128x128 := Rect.part (s := S2x128x128) (a₀ := 0) gdiv k
theorem srect0_eq : Rect.unit (s := S2x128x128) ![0, 0, 0] S1x128x128.size inb_S2x128x128_S1x128x128_0_0_0 = gpart 0 := by
  unfold gpart Rect.part Rect.block
  congr 1 <;> funext a <;> fin_cases a <;> simp [Shape.partIx, Shape.partSize]
theorem slot0_set : (slot0).view.set = (gpart 0).set := by
  show (((gV).view.slice (Rect.unit (s := S2x128x128) ![0, 0, 0] S1x128x128.size inb_S2x128x128_S1x128x128_0_0_0)).reshape S128x128 squeezes_S1x128x128_S128x128.numel_eq).set = _
  rw [View.set_reshape, View.set_slice]
  exact Finset.map_refl.trans (congrArg (fun r : Rect S2x128x128 => r.set) srect0_eq)
theorem srect1_eq : Rect.unit (s := S2x128x128) ![1, 0, 0] S1x128x128.size inb_S2x128x128_S1x128x128_1_0_0 = gpart 1 := by
  unfold gpart Rect.part Rect.block
  congr 1 <;> funext a <;> fin_cases a <;> simp [Shape.partIx, Shape.partSize]
theorem slot1_set : (slot1).view.set = (gpart 1).set := by
  show (((gV).view.slice (Rect.unit (s := S2x128x128) ![1, 0, 0] S1x128x128.size inb_S2x128x128_S1x128x128_1_0_0)).reshape S128x128 squeezes_S1x128x128_S128x128.numel_eq).set = _
  rw [View.set_reshape, View.set_slice]
  exact Finset.map_refl.trans (congrArg (fun r : Rect S2x128x128 => r.set) srect1_eq)
theorem gparts_disjoint : Disjoint (gpart 0).set (gpart 1).set := Rect.part_disjoint gdiv (by decide)
theorem gparts_cover : (gpart 0).set ∪ (gpart 1).set = (Finset.univ : Finset S2x128x128.Idx) := by
  have h := Rect.biUnion_part (s := S2x128x128) (a₀ := 0) gdiv
  rw [show (Finset.univ : Finset (Fin 2)) = {0, 1} by decide, Finset.biUnion_insert, Finset.singleton_biUnion] at h
  exact h

theorem pts_gV (f : Buf (Elt F) ((VT d L).loc cc1_scratch1)) :
    ((VT d L).loc cc1_scratch1 ↦{fullShare} f : sProp 𝕄)
      ⊢ iprop(((slot0).view.loc (VT d L) ↦[(slot0).view.set]{fullShare} f) ∗ ((slot1).view.loc (VT d L) ↦[(slot1).view.set]{fullShare} f)) := by
  rw [slot0_set, slot1_set]
  refine BIBase.Entails.trans (Entails.of_eq ?_) (pointsTo_union (ℓ := (VT d L).loc cc1_scratch1) (q := fullShare) (f := f) gparts_disjoint).1
  rw [gparts_cover]
theorem gV_join (f g : Buf (Elt F) ((VT d L).loc cc1_scratch1)) :
    iprop(((slot0).view.loc (VT d L) ↦[(slot0).view.set]{fullShare} f) ∗ ((slot1).view.loc (VT d L) ↦[(slot1).view.set]{fullShare} g))
      ⊢ (iprop(∃ h, (VT d L).loc cc1_scratch1 ↦{fullShare} h) : sProp 𝕄) := by
  rw [slot0_set, slot1_set]
  refine BIBase.Entails.trans (pointsTo_join (ℓ := (VT d L).loc cc1_scratch1) (q := fullShare) (f := f) (g := g) gparts_disjoint) ?_
  rw [gparts_cover]
  iintro H; iexists _; iexact H

theorem pts_lV (f : Buf (Elt F) ((VT d L).loc cc1_scratch0)) :
    ((lV).view.loc (VT d L) ↦[(lV).view.set]{fullShare} f : sProp 𝕄) = (VT d L).loc cc1_scratch0 ↦{fullShare} f := by
  rw [show (lV).view.set = Finset.univ from View.set_whole _]

/-! ### The task's own cells and buffers -/

abbrev cellEmb : Fin 10 ↪ GSem nD τ sig :=
  ⟨fun k => (VT d L, SemLoc.dma (csem k.val k.isLt)), fun a b h => by
    have h' : csem a.val a.isLt = csem b.val b.isLt := SemLoc.dma.inj (congrArg Prod.snd h)
    have := congrArg Fin.val h'
    exact Fin.ext (by simpa [csem] using this)⟩

theorem ownSems0_V :
    (ownSems0 (VT d L) : sProp 𝕄)
      = iprop(cells0 d L ∗ bigSep (ownCells (VT d L) \ Finset.univ.map (cellEmb d L)) fun g => semVal g 0) := by
  unfold SparseCore.Cfg.ownSems0
  have hsub : Finset.univ.map (cellEmb d L) ⊆ ownCells (VT d L) := by
    intro g hg
    obtain ⟨k, hk, rfl⟩ := Finset.mem_map.mp hg
    clear hg hk
    refine mem_ownCells.mpr ⟨rfl, ?_⟩
    show (SemLoc.dma (csem k.val k.isLt) : SemLoc sig).isScoped .scVector = true
    revert k; decide
  rw [bigSep_sdiff_split hsub, bigSep_map, bigSep_ten]
  rfl

theorem ownBufs_V :
    (ownBufs (VT d L) : sProp 𝕄)
      = iprop((∃ f, (VT d L).loc cc1_scratch0 ↦{fullShare} f) ∗ (∃ f, (VT d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

variable [FloatOps F]

/-- The task on vector subcore `(L 0, L 1)` of device `d`: its pieces in, its pieces out with the gathered rows. -/
theorem tile_body (hF : (K (F := F)).Facts) (T : Buf (Elt F) (tLoc d)) (I : Buf (Elt F) (iLoc d)) (o0 : Buf (Elt F) (oLoc d))
    (hI : ∀ j, (I j : BitVec 32).toNat < 1024) (O : CellTallies nD τ sig (HIx 1)) (W : Waits sig (HIx 1)) (hO : ∀ g, O g none = 0) :
    iprop(levAts (K (F := F)).L (K (F := F)).lev ∗ emp ∗ pieces d T I o0 (pL L)
        ∗ scopedBufs (VT d L) ∗ scopedSems0 (VT d L) ∗ owes (VT d L) O W)
      ⊢ wp frame (wpE (defs₀ (F := F)) 𝒱₀ (VT d L) none) Set.univ
          (cc1__gather_body L tV (Memref.isWhole_whole _) iV (Memref.isWhole_whole _) oV (Memref.isWhole_whole _)
            lV (Memref.isWhole_whole _) gV (Memref.isWhole_whole _) cc1_scratch2 cc1_scoped0 cc1_scoped1 cc1_scoped2 cc1_scoped3
            cc1_scoped4 cc1_scoped5 cc1_scoped6 cc1_scoped7 cc1_scoped8)
          fun _ => iprop(pieces d T I (gathered T I) (pL L) ∗ scopedBufs (VT d L) ∗ scopedSems0 (VT d L)
            ∗ ∃ W', ⌜∀ p ∈ W', p ∈ W ∨ p.2 = none⌝ ∗ owes (VT d L) O W') := by
  unfold pieces
  rw [(K (F := F)).scopedBufs_V hF d (cV L) (jV L), SparseCore.Cfg.scopedSems0_V (Val := Elt F) d (cV L) (jV L), ownSems0_V, ownBufs_V,
    bigSep_eight, bigSep_eight]
  iintro ⟨#Hlv, -, ⟨HI, HT, HO0, HO1, HO2, HO3, HO4, HO5, HO6, HO7⟩, ⟨⟨%fl, Hl⟩, ⟨%fg, Hg⟩, Hbufs⟩, ⟨Hcells, Hsems⟩, HO⟩
  ihave Hmw := (show levAts (K (F := F)).L (K (F := F)).lev ⊢ Transfers.MayWaits (VT d L) (default : HIx 1) O from
    (K (F := F)).mayWaits_none (thr := VT d L) hO) $$ Hlv
  ihave Hgs := (pts_gV (F := F) d L fg) $$ Hg
  icases Hgs with ⟨Hg0, Hg1⟩
  have hrun := tile_run d L T I hI O W (tq (wid (pL L))) o0 fl fg fg
  simp only [pts_oBlkK (F := F) d L] at hrun
  rw [pts_iRowK] at hrun
  ihave Hl' := (Entails.of_eq (pts_lV (F := F) d L fl).symm) $$ Hl
  ihave Hw := hrun $$ [Hmw HI HT HO0 HO1 HO2 HO3 HO4 HO5 HO6 HO7 Hl' Hg0 Hg1 Hcells HO]
  · isplitl [Hmw]; · iexact Hmw
    isplitl [HI]; · iexact HI
    isplitl [HT]; · iexact HT
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [Hl']; · iexact Hl'
    isplitl [Hg0]; · iexact Hg0
    isplitl [Hg1]; · iexact Hg1
    isplitl [Hcells]; · iexact Hcells
    iexact HO
  iapply (wp_wand_r frame _ _)
  isplitl [Hw]; · iexact Hw
  iintro %_ ⟨HI, HT, HO0, HO1, HO2, HO3, HO4, HO5, HO6, HO7, ⟨%fl', Hl⟩, ⟨%fa, Hg0⟩, ⟨%fb, Hg1⟩, Hcells, HO⟩
  ihave Hg := (gV_join (F := F) d L fa fb) $$ [Hg0 Hg1]
  · isplitl [Hg0] <;> iassumption
  isplitl [HI HT HO0 HO1 HO2 HO3 HO4 HO5 HO6 HO7]
  · isplitl [HI]; · iexact HI
    isplitl [HT]; · iexact HT
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    iexact HO7
  isplitl [Hl Hg Hbufs]
  · isplitl [Hl]
    · iexists fl'; iapply (Entails.of_eq (pts_lV (F := F) d L fl')); iexact Hl
    isplitl [Hg]; · iexact Hg
    iexact Hbufs
  isplitl [Hcells Hsems]
  · isplitl [Hcells] <;> iassumption
  iexact HO

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_body (coordsV c s) tV (Memref.isWhole_whole _) iV (Memref.isWhole_whole _) oV (Memref.isWhole_whole _)
            lV (Memref.isWhole_whole _) gV (Memref.isWhole_whole _) cc1_scratch2 cc1_scoped0 cc1_scoped1 cc1_scoped2 cc1_scoped3
            cc1_scoped4 cc1_scoped5 cc1_scoped6 cc1_scoped7 cc1_scoped8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

set_option maxRecDepth 16384 in
theorem tileObl [FloatOps F] (hF : (K (F := F)).Facts) (hI : ∀ d j, (I d j : BitVec 32).toNat < 1024) :
    (K (F := F)).TileObl (D (F := F)) 𝒱 (P T I o0) v₀ 0 := by
  intro d c i O W hO _ _
  simp only [show (P T I o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (T d) (I d) (o0 d) (hI d) O W hO).trans (wp_mono frame _ _ fun _ => obl_post)

end Cert.Proof.Ki

end
-- ==== Proof.Split.lean ====
/-
  The SparseCore call's arrays whole are what its tasks hold together.
-/
module

public import proofs.«01_k».proof.Proof.Obl

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S1024x128 EltTy.f32)
local notation "iV" => (Memref.whole Cert.KernelIdeal.main_v3_scv : Memref Cert.KernelIdeal.sig Kind.scVector Space.hbm Cert.KernelIdeal.S256x128 EltTy.i32)
local notation "oV" => (Memref.whole Cert.KernelIdeal.main_v4_scv : Memref Cert.KernelIdeal.sig Kind.scVector Space.hbm Cert.KernelIdeal.S32768x128 EltTy.f32)
local notation "lV" => (Memref.whole Cert.KernelIdeal.cc1_scratch0 : Memref Cert.KernelIdeal.sig Kind.scVector Space.vmem Cert.KernelIdeal.S8x128 EltTy.i32)
local notation "gV" => (Memref.whole Cert.KernelIdeal.cc1_scratch1 : Memref Cert.KernelIdeal.sig Kind.scVector Space.vmem Cert.KernelIdeal.S2x128x128 EltTy.f32)

/-! ## Tasks by number -/

/-- The (SparseCore, subcore) pairs by task number. -/
def widE : (Fin 2 × Fin 16) ≃ Fin 32 where
  toFun := wid
  invFun w := (⟨w.val % 2, by omega⟩, ⟨w.val / 2, by omega⟩)
  left_inv p := by ext <;> simp only [wid] <;> omega
  right_inv w := by ext; simp only [wid]; omega
/-- The tasks' blocks by block number. -/
def bidE : ((Fin 2 × Fin 16) × Fin 8) ≃ Fin 256 where
  toFun := bid
  invFun b := ((⟨b.val / 8 % 2, by omega⟩, ⟨b.val / 8 / 2, by omega⟩), ⟨b.val % 8, by omega⟩)
  left_inv p := by
    have h1 := p.1.1.isLt; have h2 := p.1.2.isLt; have h3 := p.2.isLt
    ext <;> simp only [bid, wid] <;> omega
  right_inv b := by ext; simp only [bid, wid]; omega

theorem iRowSet_eq (w : Fin 32) : iRowSet w = (irow w).set := by
  show ((View.whole (main_v3_scv : Ref sig .scVector)).slice (irow w)).set = _
  rw [View.set_slice]; exact Finset.map_refl
theorem oBlkSet_eq (b : Fin 256) : oBlkSet b = (oblk b).set := by
  show ((View.whole (main_v4_scv : Ref sig .scVector)).slice (oblk b)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem oblks_disjoint : ∀ i ∈ (Finset.univ : Finset (Fin 256)), ∀ j ∈ (Finset.univ : Finset (Fin 256)), i ≠ j → Disjoint (oBlkSet i) (oBlkSet j) :=
  fun i _ j _ h => by rw [oBlkSet_eq, oBlkSet_eq]; exact Rect.part_disjoint odiv h
theorem irows_cover : (Finset.univ : Finset (Fin 32)).biUnion iRowSet = Finset.univ :=
  (Finset.biUnion_congr rfl fun i _ => iRowSet_eq i).trans (Rect.biUnion_part idiv)
theorem oblks_cover : (Finset.univ : Finset (Fin 256)).biUnion oBlkSet = Finset.univ :=
  (Finset.biUnion_congr rfl fun i _ => oBlkSet_eq i).trans (Rect.biUnion_part odiv)

variable (d : Dev nD)

/-- The row numbers whole are every task's rows of them. -/
theorem iPts_tasks (f : Buf (Elt F) (iLoc d)) :
    (iLoc d ↦{fullShare} f : sProp 𝕄) = bigSep Finset.univ fun p : Fin 2 × Fin 16 => iLoc d ↦[iRowSet (wid p)]{fullShare} f := by
  refine Eq.trans ?_ (bigSep_univ_equiv widE (fun w => (iLoc d ↦[iRowSet w]{fullShare} f : sProp 𝕄)))
  rw [← pointsTo_biUnion Finset.univ (ℓ := iLoc d) iRowSet irows_disjoint, irows_cover]; try rfl
/-- The table whole is every task's share of it. -/
theorem tPts_tasks (f : Buf (Elt F) (tLoc d)) :
    (tLoc d ↦{fullShare} f : sProp 𝕄) = bigSep Finset.univ fun p : Fin 2 × Fin 16 => tLoc d ↦{tq (wid p)} f := by
  refine Eq.trans ?_ (bigSep_univ_equiv widE (fun w => (tLoc d ↦{tq w} f : sProp 𝕄)))
  exact pointsTo_piecesOf Finset.univ f (by decide) fullShare
/-- The output whole is every task's blocks of it. -/
theorem oPts_tasks (f : Buf (Elt F) (oLoc d)) :
    (oLoc d ↦{fullShare} f : sProp 𝕄)
      = bigSep Finset.univ fun p : Fin 2 × Fin 16 => bigSep Finset.univ fun k : Fin 8 => oLoc d ↦[oBlkSet (bid (p, k))]{fullShare} f := by
  rw [← bigSep_univ_prod (fun x : (Fin 2 × Fin 16) × Fin 8 => (oLoc d ↦[oBlkSet (bid x)]{fullShare} f : sProp 𝕄))]
  refine Eq.trans ?_ (bigSep_univ_equiv bidE (fun b => (oLoc d ↦[oBlkSet b]{fullShare} f : sProp 𝕄)))
  rw [← pointsTo_biUnion Finset.univ (ℓ := oLoc d) oBlkSet oblks_disjoint, oblks_cover]; try rfl

/-- Every task's pieces are the call's three arrays whole. -/
theorem pieces_whole (T : Buf (Elt F) (tLoc d)) (I : Buf (Elt F) (iLoc d)) (o : Buf (Elt F) (oLoc d)) :
    (bigSep Finset.univ fun c : Fin ((K (F := F)).nCore 0) => bigSep Finset.univ fun i : Fin ((K (F := F)).nSub 0) => pieces d T I o (castP (F := F) c i))
      = iprop((iLoc d ↦{fullShare} I) ∗ (tLoc d ↦{fullShare} T) ∗ (oLoc d ↦{fullShare} o : sProp 𝕄)) := by
  have h : (bigSep Finset.univ fun c : Fin 2 => bigSep Finset.univ fun i : Fin 16 => pieces d T I o (c, i))
      = iprop((iLoc d ↦{fullShare} I) ∗ (tLoc d ↦{fullShare} T) ∗ (oLoc d ↦{fullShare} o : sProp 𝕄)) := by
    rw [← bigSep_univ_prod (fun p : Fin 2 × Fin 16 => pieces d T I o p), iPts_tasks, tPts_tasks, oPts_tasks, ← bigSep_sep', ← bigSep_sep']
  exact h

end Cert.Proof.Ki

end
-- ==== Proof.Region.lean ====
/-
  The TensorCore's part: the pallas_call that computes the row numbers, 64 grid points of 512 rows each. The body at a
  point, the contents of the pipeline's arrays before and after the region, and the region as a step of @main entered
  from any contents of the TensorCore's arrays, the SparseCore launch's duties carried through it untouched.
-/
module

public import proofs.«01_k».proof.Proof.Setup
public import proofs.«01_k».proof.Proof.Gen.KernelIdeal.Points
public import Idealize.ShloMosaic.Lib.Pipeline.FrameBody
public import Idealize.ShloMosaic.Lib.Pipeline.ValueKit.Geometry
public import Idealize.ShloMosaic.Lib.Pipeline.ValueKit.Acc

@[expose] public section

noncomputable section

namespace Cert.Proof.Ki

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The values -/

/-- Row `r` of 512-row block `t` of the 32768 rows. -/
def zpos (t : Fin 64) (y : S512x64.Idx) : S32768x64.Idx := fun
  | 0 => (⟨512 * t.val + (y 0).val, by have h0 : (y 0).val < 512 := (y 0).isLt; show _ < 32768; omega⟩ : Fin 32768)
  | 1 => y 1
/-- Block `t` of the rows. -/
def zblk {α : Type} (Z : S32768x64.Idx → α) (t : Fin 64) : S512x64.Idx → α := fun y => Z (zpos t y)
/-- Row `r`'s place in one block of row numbers. -/
def opos (r : Fin 512) : S1x512x1.Idx := fun
  | 0 => (0 : Fin 1)
  | 1 => r
  | 2 => (0 : Fin 1)
/-- The row numbers the call computes from the rows `Z` and the transposed table `C`. -/
def nearest (Z : Vec F S32768x64 .f32) (C : Vec F S64x1024 .f32) : IVec S64x512x1 32 :=
  fun j => k0_pay1 (F := F) (zblk Z (j 0)) C (opos (j 1))

/-! ## The body at a point -/

set_option maxRecDepth 65536 in
/-- The body, from its three staging buffers held at contents that read `X0`, `X1` and anything: it runs to its return
    leaving the inputs as they were and the row numbers of the block in the third. -/
theorem argmin_body (c : Dev nD) (i : grid0.Coords) (M0 : Memref sig .tc .vmem S512x64 .f32) (h0 : M0.IsWhole) (M1 : Memref sig .tc .vmem S64x1024 .f32) (h1 : M1.IsWhole)
    (M2 : Memref sig .tc .vmem S1x512x1 .i32) (h2 : M2.IsWhole) (X0 : S512x64.Idx → Elt F .f32) (X1 : S64x1024.Idx → Elt F .f32) (X2 : S1x512x1.Idx → Elt F .i32) (Q : PUnit → sProp 𝕄) :
    iprop(owns c M0 fullShare X0 ∗ owns c M1 fullShare X1 ∗ owns c M2 fullShare X2
        ∗ (iprop(owns c M0 fullShare X0 ∗ owns c M1 fullShare X1 ∗ owns c M2 fullShare (k0_pay1 (F := F) X0 X1)) -∗ Q ⟨⟩))
      ⊢ wp frame (wpE (defs₀ (F := F)) 𝒱₀ c none) Set.univ (cc0__argmin_body i M0 h0 M1 h1 M2 h2) Q := by
  rw [cc0__argmin_body_eq_skeleton]
  unfold owns
  iintro ⟨⟨%f0, %e0, H0⟩, ⟨%f1, %e1, H1⟩, ⟨%f2, %e2, H2⟩, Hk⟩
  sl_exec!
  sl_step
  iapply Hk
  isplitl [H0]; · iexists _; isplitr; · ipureintro; exact e0
                  iexact H0
  isplitl [H1]; · iexists _; isplitr; · ipureintro; exact e1
                  iexact H1
  iexists _; isplitr
  swap; · iexact H2
  ipureintro
  frame_out
  rw [e0, e1]

/-! ## The region's proof data -/

variable (V : (c : Dev nD) → (b : Ref sig .tc) → Buf (Elt F) ((c : Thread nD τ).loc b))

/-- An input window's block at a point: the array read through the block's view. -/
abbrev iblk0 (c : Dev nD) (t : Fin cfg0.N) : S512x64.Idx → Elt F .f32 := ((cfg0.win 0).blk t).view.read (Elt F) (V c main_arg0)
abbrev iblk1 (c : Dev nD) (t : Fin cfg0.N) : S64x1024.Idx → Elt F .f32 := ((cfg0.win 1).blk t).view.read (Elt F) (V c main_v0)

/-- What the TensorCore owes the sequencers while the region runs, and how far up its recorded waits may sit. -/
abbrev Ow (c : Dev nD) : CellTallies nD τ sig (HIx 1) := (K (F := F)).Otc (N := 1) c 0
abbrev lvl0 : ℕ := 8 * SparseCore.Cfg.Blocks.fst (Q := 1) (N := 1) 0

def dat (c : Dev nD) : Dat τ (Elt F) (HIx 1) ℕ UU ℕ cfg0 c where
  A w := V c (Pipeline.arrRef spec0 w)
  after w t := match w with
    | ⟨0, _⟩ => iblk0 V c t
    | ⟨1, _⟩ => iblk1 V c t
    | ⟨2, _⟩ => k0_pay1 (F := F) (iblk0 V c t) (iblk1 V c t)
  Φ _ := BI.emp
  q _ := fullShare
  owed _ := Ow (F := F) c
  recorded _ := {p | (K (F := F)).lev (N := 1) ((c : Thread nD τ), p.1) p.2 ≤ lvl0}

theorem before0 (c : Dev nD) (t : Fin cfg0.N) (x : (cfg0.win 0).block.Idx → Elt F (cfg0.win 0).elt) : (dat V c).before 0 t x = iblk0 V c t :=
  (dat V c).before_in_eq_fetched 0 rfl (fun _ => rfl) (fun _ _ _ => rfl) (fun _ => rfl) t x
theorem before1 (c : Dev nD) (t : Fin cfg0.N) (x : (cfg0.win 1).block.Idx → Elt F (cfg0.win 1).elt) : (dat V c).before 1 t x = iblk1 V c t :=
  (dat V c).before_in_eq_fetched 1 rfl (fun _ => rfl) (fun _ _ _ => rfl) (fun _ => rfl) t x

theorem after2 (c : Dev nD) (t : Fin cfg0.N) : (dat V c).after 2 t = k0_pay1 (F := F) (iblk0 V c t) (iblk1 V c t) := by dsimp only [dat]

/-- The body at every point of the grid, as the pipeline asks for it. -/
theorem body_obligation (c : Dev nD) : BodyObligation (dat V c) (defs₀ (F := F)) 𝒱₀ (none : HIx 1) Set.univ := fun t => by
  rw [bigSep_W0, bigSep_W0]
  rw [show (dat V c).Φ t.castSucc = BI.emp from rfl, show (dat V c).Φ t.succ = BI.emp from rfl,
    show (dat V c).owesAt (none : HIx 1) t.succ = (dat V c).owesAt (none : HIx 1) t.castSucc from rfl]
  iintro ⟨HΦ, Howes, ⟨%x0, H0⟩, ⟨%x1, H1⟩, ⟨%x2, H2⟩⟩
  rw [before0, before1]
  iapply (argmin_body c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (iblk0 V c t) (iblk1 V c t) ((dat V c).before 2 t x2) _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  change _ ⊢ owns (c : Thread nD τ) (win0_2.stage (cfg0.slots t 2)) fullShare ((dat V c).after 2 t)
  rw [after2]

/-- The array of row numbers after the region. -/
theorem arr_out (c : Dev nD) : (dat V c).arrAt 2 cfg0.N = nearest (F := F) (V c main_arg0) (V c main_v0) := by
  have i0 : ∀ t : Fin cfg0.N, win0_0.index t = ![(grid0.coords t 0).val, 0] := (by decide +kernel : ∀ t : Fin grid0.N, _)
  have i1 : ∀ t : Fin cfg0.N, win0_1.index t = ![0, 0] := (by decide +kernel : ∀ t : Fin grid0.N, _)
  have i2 : ∀ t : Fin cfg0.N, win0_2.index t = ![(grid0.coords t 0).val, 0, 0] := (by decide +kernel : ∀ t : Fin grid0.N, _)
  refine (dat V c).arrAt_eq_of_covers 2 _ (by decide +kernel) fun t hf y => ?_
  have hy : y = opos (y 1) := by
    funext a; fin_cases a
    · exact Subsingleton.elim (α := Fin 1) _ _
    · rfl
    · exact Subsingleton.elim (α := Fin 1) _ _
  blk_simp
  rw [after2]
  unfold nearest
  obtain ⟨n, hn⟩ : ∃ n : Fin 64, n = ((win0_2.blk t).view.emb y 0 : Fin 64) := ⟨_, rfl⟩
  have h2 : n.val = (grid0.coords t 0).val := by
    rw [hn]
    blk_simp [i2]
  rw [← hn]
  have hb0 : iblk0 V c t = zblk (V c main_arg0) n := by
    funext x
    show V c main_arg0 (((cfg0.win 0).blk t).view.emb x) = V c main_arg0 (zpos n x)
    refine congrArg (V c main_arg0) ?_
    funext a; fin_cases a
    · apply Fin.ext
      blk_simp [i0]
      show (grid0.coords t 0).val * 512 + (x 0).val = 512 * n.val + (x 0).val
      rw [h2, Nat.mul_comm]
    · apply Fin.ext
      blk_simp [i0]
      rfl
  have hb1 : iblk1 V c t = V c main_v0 := by
    funext x
    show V c main_v0 (((cfg0.win 1).blk t).view.emb x) = V c main_v0 x
    refine congrArg (V c main_v0) ?_
    funext a; fin_cases a <;> (apply Fin.ext; blk_simp [i1])
  have hb2 : (opos ((win0_2.blk t).view.emb y 1) : S1x512x1.Idx) = opos (y 1) := by
    refine congrArg opos ?_
    apply Fin.ext
    show (((win0_2.blk t).view.emb y 1 : Fin 512) : ℕ) = _
    blk_simp [i2]
  rw [hb0, hb1, hb2]
  exact congrArg _ hy

end Cert.Proof.Ki

end
-- ==== Proof.Enter.lean ====
/-
  The TensorCore's region as a step of @main on any device: entered with every array of @main at `V` and the duties the
  SparseCore call leaves the TensorCore with, left with the row numbers in the result's array and the same duties.
-/
module

public import proofs.«01_k».proof.Proof.Region
public import Idealize.ShloMosaic.Lib.Pipeline.RegionsLoop

@[expose] public section

noncomputable section

namespace Cert.Proof.Ki

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The one pipeline's call takes no argument. -/
abbrev adm : (p : Fin 1) → (pcfgs (F := F) p).Adm := fun q => (cfgs q).toPCfg_adm

/-- The TensorCore owes nothing at the index its own waits use. -/
theorem Ow_none (c : Dev nD) (g : GSem nD τ sig) : Ow (F := F) c g none = 0 := by
  by_contra h
  exact absurd (SparseCore.Cfg.lev_of_Otc_pos (K := K (F := F)) (Nat.pos_of_ne_zero h)) (Nat.not_succ_le_zero _)

variable (V Vp : (c : Dev nD) → (b : Ref sig .tc) → Buf (Elt F) ((c : Thread nD τ).loc b))

def pdats : (p : Fin 1) → (c : Dev nD) → Dat τ (Elt F) (HIx 1) ℕ UU ℕ (Pipeline.pin (pcfgs (F := F)) adm p) c
  | ⟨0, _⟩ => fun c => dat V c

/-- The TensorCore's debts, with its recorded waits where the SparseCore call wants them. -/
abbrev debts (c : Dev nD) : sProp 𝕄 :=
  iprop(∃ W, ⌜(K (F := F)).WBelow (N := 1) (c : Thread nD τ) W lvl0⌝ ∗ owes (c : Thread nD τ) (Ow (F := F) c) W)

set_option backward.isDefEq.respectTransparency.types false in
def reg (hout : ∀ c, Vp c main_v2 = nearest (F := F) (V c main_arg0) (V c main_v0)) (hne : ∀ c (b : Ref sig .tc), b ≠ main_v2 → Vp c b = V c b) :
    Pipeline.RegionSeg (pcfgs (F := F)) adm (pdats V) (none : HIx 1) defs₀ 𝒱₀ ((K (F := F)).L (N := 1)) ((K (F := F)).lev (N := 1)) 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (K (F := F)).mayWait_none _ (Ow_none c)
  pre c := iprop(unscopedBufs c (V c) ∗ debts c)
  post c := iprop(unscopedBufs c (Vp c) ∗ debts c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = BI.emp from rfl]
    iintro ⟨-, -, Hr⟩
    iapply (Entails.of_eq (scopedRest0_eq c)); iexact Hr
  hout c := by
    rw [Pipeline.ownSems0_none, show (pdats V 0 c).Φ (Fin.last _) = BI.emp from rfl]
    iintro Hr
    isplitr; · iempintro
    isplitr; · iempintro
    iapply (Entails.of_eq (scopedRest0_eq c).symm); iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hne c main_arg0 (by decide)).symm
        · exact ((pdats V 0 c).arrAt_in 1 rfl _).trans (hne c main_v0 (by decide)).symm
        · exact (arr_out V c).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

/-- The pipeline's cells' invariants and tokens, at a device. -/
abbrev pipeGhost (c : Dev nD) : sProp 𝕄 :=
  iprop(Pipeline.cellsGhost (Pipeline.pin (pcfgs (F := F)) adm) (EP (F := F)) 0 c ∗ Pipeline.toksInit (Pipeline.pin (pcfgs (F := F)) adm) (EP (F := F)) 0 c)

/-- The call as the TensorCore's pipelines know it, and as @main spells it. -/
abbrev callP : Prog (TpuEff nD τ sig (Elt F) (ΛP (F := F)) .tc) PUnit := Prog.lift (.customCall (Pipeline.entry 0) ())
abbrev callM : Prog (TpuEff nD τ sig (Elt F) (SparseCore.Sig (ΛP (F := F)) 1) .tc) PUnit := Prog.lift (.customCall (SparseCore.inner (Pipeline.entry 0)) ())
theorem callP_lift : SparseCore.liftProg (Q := 1) (callP (F := F)) = callM (F := F) := rfl

/-- The call of the TensorCore's kernel from @main. -/
theorem region_wp (d : Dev nD) (hout : ∀ c, Vp c main_v2 = nearest (F := F) (V c main_arg0) (V c main_v0)) (hne : ∀ c (b : Ref sig .tc), b ≠ main_v2 → Vp c b = V c b)
    (Φ : PUnit → sProp 𝕄) :
    iprop((iprop(boundary (d : Thread nD τ) ∗ unscopedBufs d (Vp d) ∗ debts d) -∗ Φ ⟨⟩)
        ∗ boundary (d : Thread nD τ) ∗ (unscopedBufs d (V d) ∗ debts d) ∗ levAts ((K (F := F)).L (N := 1)) ((K (F := F)).lev (N := 1)) ∗ pipeGhost d)
      ⊢ wp frame (wpE ((K (F := F)).defs D) 𝒱 (SparseCore.T d) none) Set.univ
          (callM (F := F)) Φ := by
  refine BI.Entails.trans ?_ ((K (F := F)).wp_liftProg D 𝒱 (SparseCore.T d) Set.univ none (callP (F := F)) Φ)
  have h := Pipeline.RegionSeg.wp (pcfgs (F := F)) adm (pdats V) (none : HIx 1) cellOf_inj (EP (F := F)) defs₀ 𝒱₀ ((K (F := F)).L (N := 1)) ((K (F := F)).lev (N := 1))
    (reg V Vp hout hne) d none (fun u hu => absurd hu (by simp)) (fun x => Prog.ret x) Φ
  rw [wp_ret, show (reg V Vp hout hne).pre d = iprop(unscopedBufs d (V d) ∗ debts d) from rfl,
    show (reg V Vp hout hne).post d = iprop(unscopedBufs d (Vp d) ∗ debts d) from rfl] at h
  refine BIBase.Entails.trans ?_ h
  iintro ⟨Hk, Hb, Hp, Hl, Hg⟩
  isplitl [Hk]
  · iintro H
    imodintro
    iapply Hk; iexact H
  isplitl [Hb]; · iexact Hb
  isplitl [Hp]; · iexact Hp
  isplitl [Hl]; · iexact Hl
  iexact Hg

end Cert.Proof.Ki

end
-- ==== Proof.Values.lean ====
/-
  The values the program moves: what each of @main's arrays holds between its operations, in the arguments.
-/
module

public import proofs.«01_k».proof.Proof.Split
public import proofs.«01_k».proof.Proof.Enter

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open StableHlo (held held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values -/

abbrev zLoc (d : Dev nD) : Loc nD τ sig := (SparseCore.T d).loc main_arg0
abbrev cLoc (d : Dev nD) : Loc nD τ sig := (SparseCore.T d).loc main_arg1
abbrev rLoc (d : Dev nD) : Loc nD τ sig := (SparseCore.T d).loc main_v5

/-- The codebook transposed, as the TensorCore's call reads it. -/
def transposed (c : Vec F S1024x64 .f32) : Vec F S64x1024 .f32 := transpose S64x1024 [1, 0] c transposes_S1024x64_S64x1024_1_0
/-- The codebook padded to 128 lanes, as the SparseCore's call reads it. -/
def padded (c : Vec F S1024x64 .f32) : Vec F S1024x128 .f32 :=
  pad S1024x128 ![0, 0] ![0, 64] ![0, 0] c (sitofp .f32 (constantI S_ 32 0#32)) pads_S1024x64_S1024x128_000_0640 h_S_
/-- The row numbers laid out 256 by 128. -/
def relaid (j : IVec S64x512x1 32) : IVec S256x128 32 := shapeCast S256x128 j shapeCasts_S64x512x1_S256x128
/-- The row numbers the SparseCore's call reads. -/
def rows (z : Vec F S32768x64 .f32) (c : Vec F S1024x64 .f32) : IVec S256x128 32 := relaid (nearest z (transposed c))
/-- The program's result. -/
def result (z : Vec F S32768x64 .f32) (c : Vec F S1024x64 .f32) : Vec F S32768x64 .f32 :=
  extractStridedSlice S32768x64 ![0, 0] (gathered (padded c) (rows z c)) slices_S32768x128_S32768x64_0_0

def Tm (d : Dev nD) : Buf (Elt F) (tLoc d) := padded (m (cLoc d))
def Im (d : Dev nD) : Buf (Elt F) (iLoc d) := rows (m (zLoc d)) (m (cLoc d))
def Om (d : Dev nD) : Buf (Elt F) (oLoc d) := m (oLoc d)
def Rm (d : Dev nD) : Buf (Elt F) (rLoc d) := result (m (zLoc d)) (m (cLoc d))

/-! ## @main's operations and the arrays' contents between them -/

abbrev dr (b : Ref sig .tc) : DevRef τ sig := Proc.devRef .tc b

abbrev opT : HloOp τ sig (Elt F) := StableHlo.unary main_arg1 main_v0 ((transpose S64x1024 [1, 0] · transposes_S1024x64_S64x1024_1_0) : (⟨S1024x64, .f32⟩ : BufTy).Contents (Elt F) → (⟨S64x1024, .f32⟩ : BufTy).Contents (Elt F))
abbrev opC : HloOp τ sig (Elt F) := StableHlo.nullary main_c (constantI S_ 32 0#32)
abbrev opSi : HloOp τ sig (Elt F) := StableHlo.TRef.unary (StableHlo.TRef.of main_c) main_call0.v0 (sitofp .f32)
abbrev opPad : HloOp τ sig (Elt F) := StableHlo.TRef.binary (StableHlo.TRef.of main_arg1 : StableHlo.TRef sig ⟨S1024x64, .f32⟩) main_call0.v0 main_call0.v1 (fun x v => pad S1024x128 ![0, 0] ![0, 64] ![0, 0] x v pads_S1024x64_S1024x128_000_0640 h_S_)
abbrev opR : HloOp τ sig (Elt F) := StableHlo.reshape main_v2 main_v3 (rfl : (.i32 : EltTy) = .i32) shapeCasts_S64x512x1_S256x128
abbrev opS : HloOp τ sig (Elt F) := StableHlo.unary main_v4 main_v5 ((extractStridedSlice S32768x64 ![0, 0] · slices_S32768x128_S32768x64_0_0) : (⟨S32768x128, .f32⟩ : BufTy).Contents (Elt F) → (⟨S32768x64, .f32⟩ : BufTy).Contents (Elt F))

def V0 (d : Dev nD) : Valuation τ sig (Elt F) := fun b => m (d, b)
def V1 (d : Dev nD) : Valuation τ sig (Elt F) := (opT (F := F)).result (V0 m d)
def V2 (d : Dev nD) : Valuation τ sig (Elt F) := (opC (F := F)).result (V1 m d)
def V3 (d : Dev nD) : Valuation τ sig (Elt F) := (opSi (F := F)).result (V2 m d)
/-- Before the TensorCore's call. -/
def V4 (d : Dev nD) : Valuation τ sig (Elt F) := (opPad (F := F)).result (V3 m d)
/-- After it. -/
def V5 (d : Dev nD) : Valuation τ sig (Elt F) := Function.update (V4 m d) (dr main_v2) (nearest (F := F) (V4 m d (dr main_arg0)) (V4 m d (dr main_v0)))
/-- Before the SparseCore's call. -/
def V6 (d : Dev nD) : Valuation τ sig (Elt F) := (opR (F := F)).result (V5 m d)
/-- After it. -/
def V7 (d : Dev nD) : Valuation τ sig (Elt F) := Function.update (V6 m d) (dr main_v4) (gathered (Tm m d) (Im m d))
/-- At the end. -/
def V8 (d : Dev nD) : Valuation τ sig (Elt F) := (opS (F := F)).result (V7 m d)

/-- An operation changes only the array it writes. -/
theorem kept (op : HloOp τ sig (Elt F)) (y : Ref sig .tc) (hw : op.writes = {dr y}) (V : Valuation τ sig (Elt F)) {b : Ref sig .tc} (h : b ≠ y) :
    op.result V (dr b) = V (dr b) :=
  op.result_of_not_mem V (by rw [hw, Finset.mem_singleton]; exact StableHlo.devRef_ne_of_ne h)

theorem V4_of (d : Dev nD) (b : Ref sig .tc) (h0 : b ≠ main_v0) (h1 : b ≠ main_c) (h2 : b ≠ main_call0_v0) (h3 : b ≠ main_v1) : V4 m d (dr b) = m (d, dr b) := by
  unfold V4 V3 V2 V1
  rw [kept opPad main_v1 rfl _ h3, kept opSi main_call0_v0 rfl _ h2, kept opC main_c rfl _ h1, kept opT main_v0 rfl _ h0]
  rfl
theorem V4_v0 (d : Dev nD) : V4 m d (dr main_v0) = transposed (m (cLoc d)) := by
  unfold V4 V3 V2
  rw [kept opPad main_v1 rfl _ (by decide), kept opSi main_call0_v0 rfl _ (by decide), kept opC main_c rfl _ (by decide)]
  exact StableHlo.unary_result _ _ _ _ _ _
theorem V2_c (d : Dev nD) : V2 m d (dr main_c) = constantI S_ 32 0#32 := StableHlo.nullary_result _ _ _ _
theorem V3_call0 (d : Dev nD) : V3 m d (dr main_call0_v0) = sitofp (F := F) .f32 (constantI S_ 32 0#32) := by
  refine (StableHlo.unary_result _ _ _ _ _ _).trans ?_
  rw [show V2 m d (Proc.devRef .tc (StableHlo.TRef.of main_c : StableHlo.TRef sig _).ref) = constantI S_ 32 0#32 from V2_c m d]
  rfl
theorem V3_arg1 (d : Dev nD) : V3 m d (dr main_arg1) = m (cLoc d) := by
  unfold V3 V2 V1
  rw [kept opSi main_call0_v0 rfl _ (by decide), kept opC main_c rfl _ (by decide), kept opT main_v0 rfl _ (by decide)]
  rfl
theorem V4_v1 (d : Dev nD) : V4 m d (dr main_v1) = Tm m d := by
  refine (StableHlo.binary_result _ _ _ _ _ _ _ _).trans ?_
  rw [show V3 m d (Proc.devRef .tc (StableHlo.TRef.of main_arg1 : StableHlo.TRef sig _).ref) = m (cLoc d) from V3_arg1 m d,
    show V3 m d (Proc.devRef .tc (main_call0.v0).ref) = sitofp (F := F) .f32 (constantI S_ 32 0#32) from V3_call0 m d]
  rfl

theorem V5_v2 (d : Dev nD) : V5 m d (dr main_v2) = nearest (F := F) (V4 m d (dr main_arg0)) (V4 m d (dr main_v0)) := Function.update_self _ _ _
theorem V5_of (d : Dev nD) (b : Ref sig .tc) (h : b ≠ main_v2) : V5 m d (dr b) = V4 m d (dr b) :=
  Function.update_of_ne (StableHlo.devRef_ne_of_ne h) _ _
theorem V6_of (d : Dev nD) (b : Ref sig .tc) (h : b ≠ main_v3) (h' : b ≠ main_v2) : V6 m d (dr b) = V4 m d (dr b) :=
  (kept opR main_v3 rfl _ h).trans (V5_of m d b h')
theorem V6_v1 (d : Dev nD) : V6 m d (dr main_v1) = Tm m d := (V6_of m d _ (by decide) (by decide)).trans (V4_v1 m d)
theorem V6_v4 (d : Dev nD) : V6 m d (dr main_v4) = Om m d :=
  (V6_of m d _ (by decide) (by decide)).trans (V4_of m d _ (by decide) (by decide) (by decide) (by decide))
theorem V6_v3 (d : Dev nD) : V6 m d (dr main_v3) = Im m d := by
  refine (StableHlo.reshape_result _ _ _ _ _ _ _).trans ?_
  rw [show V5 m d (Proc.devRef .tc main_v2) = nearest (F := F) (m (zLoc d)) (transposed (m (cLoc d))) from by
    rw [V5_v2, V4_v0, V4_of m d main_arg0 (by decide) (by decide) (by decide) (by decide)]]
  rfl
theorem V7_v4 (d : Dev nD) : V7 m d (dr main_v4) = gathered (Tm m d) (Im m d) := Function.update_self _ _ _
theorem V7_of (d : Dev nD) (b : Ref sig .tc) (h : b ≠ main_v4) : V7 m d (dr b) = V6 m d (dr b) :=
  Function.update_of_ne (StableHlo.devRef_ne_of_ne h) _ _
theorem V8_v5 (d : Dev nD) : V8 m d (dr main_v5) = Rm m d := by
  refine (StableHlo.unary_result _ _ _ _ _ _).trans ?_
  rw [show V7 m d (Proc.devRef .tc main_v4) = gathered (Tm m d) (Im m d) from V7_v4 m d]
  rfl
theorem V8_arg (d : Dev nD) (b : Ref sig .tc) (h : b = main_arg0 ∨ b = main_arg1) : V8 m d (dr b) = m (d, dr b) := by
  unfold V8
  rcases h with rfl | rfl
  all_goals
    rw [kept opS main_v5 rfl _ (by decide)]
    exact (V7_of m d _ (by decide)).trans ((V6_of m d _ (by decide) (by decide)).trans
      (V4_of m d _ (by decide) (by decide) (by decide) (by decide)))

end Cert.Proof.Ki

end
-- ==== Proof.Run.lean ====
/-
  The kernel's program runs: on every device @main transposes and pads the codebook, runs the TensorCore's call and the
  SparseCore's, and slices the result; the arguments keep their contents and every semaphore ends at zero.
-/
module

public import proofs.«01_k».proof.Proof.Values

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open StableHlo (held held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays held together -/

/-- The TensorCore's arrays that live from start to end. -/
abbrev ucRefs : Finset (DevRef τ sig) := (StableHlo.tcRefs τ sig).filter fun b => ¬ b.isScoped

theorem unscopedBufs_held (d : Dev nD) (W : Valuation τ sig (Elt F)) :
    (unscopedBufs d (fun b => W (dr b)) : sProp 𝕄) = held (T d) ucRefs W := by
  unfold unscopedBufs StableHlo.held ucRefs StableHlo.tcRefs
  rw [Finset.filter_map, bigSep_map]
  rfl

theorem held_congr (d : Dev nD) (S : Finset (DevRef τ sig)) (V W : Valuation τ sig (Elt F)) (h : ∀ b ∈ S, V b = W b) :
    (held (T d) S V : sProp 𝕄) = held (T d) S W := bigSep_congr fun b hb => by rw [h b hb]

abbrev callRefs : Finset (DevRef τ sig) := {dr main_v3, dr main_v1, dr main_v4}
theorem callRefs_sub : callRefs ⊆ ucRefs := by decide
theorem held_call (d : Dev nD) (W : Valuation τ sig (Elt F)) :
    (held (T d) callRefs W : sProp 𝕄)
      = iprop((iLoc d ↦{fullShare} W (dr main_v3)) ∗ (tLoc d ↦{fullShare} W (dr main_v1)) ∗ (oLoc d ↦{fullShare} W (dr main_v4))) := by
  unfold StableHlo.held
  rw [SparseCore.bigSep_insert' (by decide), SparseCore.bigSep_insert' (by decide), bigSep_singleton]

abbrev finRefs : Finset (DevRef τ sig) := {dr main_arg0, dr main_arg1, dr main_v5}
theorem finRefs_sub : finRefs ⊆ ucRefs := by decide
theorem held_fin (d : Dev nD) (W : Valuation τ sig (Elt F)) :
    (held (T d) finRefs W : sProp 𝕄)
      = iprop((zLoc d ↦{fullShare} W (dr main_arg0)) ∗ (cLoc d ↦{fullShare} W (dr main_arg1)) ∗ (rLoc d ↦{fullShare} W (dr main_v5))) := by
  unfold StableHlo.held
  rw [SparseCore.bigSep_insert' (by decide), SparseCore.bigSep_insert' (by decide), bigSep_singleton]

/-! ## The ghost state at launch -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_emp' {A : Type} (s : Finset A) : (bigSep s fun _ => iprop(emp)) = (iprop(emp) : sProp 𝕄) := bigSep_emp_const s
theorem bigSep_one (Φ : Dev nD → Fin 1 → sProp 𝕄) :
    (bigSep Finset.univ fun c => bigSep Finset.univ fun p => Φ c p) = bigSep Finset.univ fun c => Φ c 0 :=
  bigSep_congr fun _ _ => bigSep_univ_of_subsingleton (0 : Fin 1)

theorem hu₀ (T' : (d : Dev nD) → Buf (Elt F) (tLoc d)) (I' : (d : Dev nD) → Buf (Elt F) (iLoc d)) (o' : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P T' I' o').x q thr) := by
  unfold u₀
  iintro Hu
  ihave H := (ownU_pair (initOf (K (F := F)).hsCells (K (F := F)).hsToks) _) $$ Hu
  icases H with ⟨HH, HR⟩
  ihave H := (own_pair_emb (embR : Emb (UP × Counters) 𝕄) _ _) $$ HR
  icases H with ⟨HP, -⟩
  imod (Pipeline.fund_ghost (Pipeline.pin (pcfgs (F := F)) adm) (EP (F := F)) cellOf_inj) $$ HP with ⟨Hc, Ht⟩
  imodintro
  isplitl [HH]; · iexact HH
  isplitl [Hc Ht]
  · unfold pipeGhost
    rw [bigSep_sep']
    isplitl [Hc]
    · ihave Hc := (Entails.of_eq (bigSep_one (F := F) fun c p => Pipeline.cellsGhost (Pipeline.pin (pcfgs (F := F)) adm) (EP (F := F)) p c)) $$ Hc
      iexact Hc
    · ihave Ht := (Entails.of_eq (bigSep_one (F := F) fun c p => Pipeline.toksInit (Pipeline.pin (pcfgs (F := F)) adm) (EP (F := F)) p c)) $$ Ht
      iexact Ht
  rw [show (bigSep Finset.univ fun thr : Thread nD τ => bigSep Finset.univ fun q : Fin 1 => (P (F := F) T' I' o').x q thr) = bigSep Finset.univ fun _ => iprop(emp) from
    bigSep_congr fun _ _ => bigSep_univ_of_subsingleton (0 : Fin 1), bigSep_emp' (F := F)]
  iempintro

/-! ## @main -/

/-- What @main leaves the claims: the arguments at their launch contents, the result at its value. -/
abbrev FIN (d : Dev nD) : sProp 𝕄 :=
  iprop((zLoc d ↦{fullShare} m (zLoc d)) ∗ (cLoc d ↦{fullShare} m (cLoc d)) ∗ (rLoc d ↦{fullShare} Rm m d))

theorem st0_eq (d : Dev nD) : (bigSep Finset.univ fun c : Fin ((K (F := F)).nCore 0) => (P (Tm m) (Im m) (Om m)).st 0 d c)
    = (iprop((iLoc d ↦{fullShare} Im m d) ∗ (tLoc d ↦{fullShare} Tm m d) ∗ (oLoc d ↦{fullShare} Om m d)) : sProp 𝕄) :=
  pieces_whole d (Tm m d) (Im m d) (Om m d)
theorem dn0_eq (d : Dev nD) : (bigSep Finset.univ fun c : Fin ((K (F := F)).nCore 0) => (P (Tm m) (Im m) (Om m)).dn 0 d c)
    = (iprop((iLoc d ↦{fullShare} Im m d) ∗ (tLoc d ↦{fullShare} Tm m d) ∗ (oLoc d ↦{fullShare} gathered (Tm m d) (Im m d))) : sProp 𝕄) :=
  pieces_whole d (Tm m d) (Im m d) (gathered (Tm m d) (Im m d))

theorem hT : (opT (F := F)).bufs ⊆ ucRefs := show ({dr main_arg1, dr main_v0} : Finset (DevRef τ sig)) ⊆ ucRefs by decide
theorem hC : (opC (F := F)).bufs ⊆ ucRefs := show ({dr main_c} : Finset (DevRef τ sig)) ⊆ ucRefs by decide
theorem hSi : (opSi (F := F)).bufs ⊆ ucRefs := show ({dr main_c, dr main_call0_v0} : Finset (DevRef τ sig)) ⊆ ucRefs by decide
theorem hPad : (opPad (F := F)).bufs ⊆ ucRefs := show ({dr main_arg1, dr main_call0_v0, dr main_v1} : Finset (DevRef τ sig)) ⊆ ucRefs by decide
theorem hR : (opR (F := F)).bufs ⊆ ucRefs := show ({dr main_v2, dr main_v3} : Finset (DevRef τ sig)) ⊆ ucRefs by decide
theorem hS : (opS (F := F)).bufs ⊆ ucRefs := show ({dr main_v4, dr main_v5} : Finset (DevRef τ sig)) ⊆ ucRefs by decide

theorem hmain (κ : GSem nD τ sig → ℕ) (d : Dev nD) :
    iprop((K (F := F)).ctx EH (P (Tm m) (Im m) (Om m)) κ ∗ (K (F := F)).tcSt EH d 0 ∗ (K (F := F)).tcRes m ρ d ∗ pipeGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (fun b => m ((SparseCore.T d).loc b)) = (fun b => V0 m d (dr b)) from rfl, unscopedBufs_held]
  simp only [main, fn_pad.body, wp_bind, wp_pure]
  iintro ⟨#Hctx, Hst, ⟨Hb, Hheld, Hts, -⟩, Hgh⟩
  iapply (wp_hlo_within 𝒱 (SparseCore.T d) none Set.univ (op := opT) (S := ucRefs) hT (V := V0 m d)) $$ [Hb Hheld]
  · isplitl [Hb] <;> iassumption
  iintro ⟨Hb, Hheld⟩
  rw [wp_ret]; imodintro
  iapply (wp_hlo_within 𝒱 (SparseCore.T d) none Set.univ (op := opC) (S := ucRefs) hC (V := (opT (F := F)).result (V0 m d))) $$ [Hb Hheld]
  · isplitl [Hb] <;> iassumption
  iintro ⟨Hb, Hheld⟩
  rw [wp_ret]; imodintro
  iapply (wp_hlo_within 𝒱 (SparseCore.T d) none Set.univ (op := opSi) (S := ucRefs) hSi (V := (opC (F := F)).result ((opT (F := F)).result (V0 m d)))) $$ [Hb Hheld]
  · isplitl [Hb] <;> iassumption
  iintro ⟨Hb, Hheld⟩
  rw [wp_ret]; imodintro
  iapply (wp_hlo_within 𝒱 (SparseCore.T d) none Set.univ (op := opPad) (S := ucRefs) hPad (V := (opSi (F := F)).result ((opC (F := F)).result ((opT (F := F)).result (V0 m d))))) $$ [Hb Hheld]
  · isplitl [Hb] <;> iassumption
  iintro ⟨Hb, Hheld⟩
  rw [wp_ret]; imodintro; imodintro
  -- the TensorCore's call
  ihave Hub := (Entails.of_eq (show (held (T d) ucRefs ((opPad (F := F)).result ((opSi (F := F)).result ((opC (F := F)).result ((opT (F := F)).result (V0 m d))))) : sProp 𝕄) = unscopedBufs d (fun b => V4 m d (dr b)) from
    (unscopedBufs_held d (V4 m d)).symm)) $$ Hheld
  ihave Hst' := (show (K (F := F)).tcSt EH d 0 ⊢ iprop(debts d ∗ (debts d -∗ (K (F := F)).tcSt EH d 0) : sProp 𝕄) from by
    unfold SparseCore.Cfg.tcSt
    iintro ⟨H, Hr⟩
    isplitl [H]; · iexact H
    iintro H
    isplitl [H]; · iexact H
    iexact Hr) $$ Hst
  icases Hst' with ⟨Hd, Hst⟩
  ihave Hlev := (SparseCore.Cfg.ctx_levAts κ) $$ Hctx
  iapply (region_wp (fun c b => V4 m c (dr b)) (fun c b => V5 m c (dr b)) d (fun c => V5_v2 m c) (fun c b h => V5_of m c b h) _)
  isplitr [Hb Hub Hd Hgh]
  swap
  · isplitl [Hb]; · iexact Hb
    isplitl [Hub Hd]
    · isplitl [Hub] <;> iassumption
    isplitr [Hgh]; · iexact Hlev
    iexact Hgh
  iintro ⟨Hb, Hub, Hd⟩
  ihave Hst := Hst $$ Hd
  ihave Hheld := (Entails.of_eq (unscopedBufs_held d (V5 m d))) $$ Hub
  iapply (wp_hlo_within 𝒱 (SparseCore.T d) none Set.univ (op := opR) (S := ucRefs) hR (V := V5 m d)) $$ [Hb Hheld]
  · isplitl [Hb] <;> iassumption
  iintro ⟨Hb, Hheld⟩
  rw [wp_ret]; imodintro
  -- the SparseCore's call
  ihave Hh := (Entails.of_eq (show (held (T d) ucRefs ((opR (F := F)).result (V5 m d)) : sProp 𝕄)
      = iprop(((iLoc d ↦{fullShare} Im m d) ∗ (tLoc d ↦{fullShare} Tm m d) ∗ (oLoc d ↦{fullShare} Om m d)) ∗ held (T d) (ucRefs \ callRefs) (V6 m d)) from by
    show held (T d) ucRefs (V6 m d) = _
    rw [held_sub_split (T d) callRefs_sub (V6 m d), held_call, V6_v1, V6_v3, V6_v4])) $$ Hheld
  icases Hh with ⟨Hcall, Hrest⟩
  iapply ((K (F := F)).wp_run (D (F := F)) 𝒱 (EH := EH) (P := P (Tm m) (Im m) (Om m)) κ d 0) $$ [-]
  isplitr; · iexact Hctx
  isplitl [Hst]; · iexact Hst
  isplitl [Hcall]
  · rw [st0_eq]; iexact Hcall
  iintro ⟨Hst, Hdn⟩
  ihave Hcall := (Entails.of_eq (dn0_eq m d)) $$ Hdn
  ihave Hheld := (Entails.of_eq (show (iprop(((iLoc d ↦{fullShare} Im m d) ∗ (tLoc d ↦{fullShare} Tm m d) ∗ (oLoc d ↦{fullShare} gathered (Tm m d) (Im m d))) ∗ held (T d) (ucRefs \ callRefs) (V6 m d)) : sProp 𝕄)
      = held (T d) ucRefs (V7 m d) from by
    rw [held_sub_split (T d) callRefs_sub (V7 m d), held_call, V7_v4, V7_of m d main_v1 (by decide), V7_of m d main_v3 (by decide), V6_v1, V6_v3,
      held_congr d (ucRefs \ callRefs) (V6 m d) (V7 m d) fun b hb => (Function.update_of_ne (fun h => absurd (Finset.mem_sdiff.mp hb).2 (by simp [h])) _ _).symm])) $$ [Hcall Hrest]
  · isplitl [Hcall] <;> iassumption
  iapply (wp_hlo_within 𝒱 (SparseCore.T d) none Set.univ (op := opS) (S := ucRefs) hS (V := V7 m d)) $$ [Hb Hheld]
  · isplitl [Hb] <;> iassumption
  iintro ⟨Hb, Hheld⟩
  ihave Hh := (Entails.of_eq (show (held (T d) ucRefs ((opS (F := F)).result (V7 m d)) : sProp 𝕄)
      = iprop(FIN m d ∗ held (T d) (ucRefs \ finRefs) (V8 m d)) from by
    show held (T d) ucRefs (V8 m d) = _
    rw [held_sub_split (T d) finRefs_sub (V8 m d), held_fin, V8_v5, V8_arg m d main_arg0 (.inl rfl), V8_arg m d main_arg1 (.inr rfl)])) $$ Hheld
  icases Hh with ⟨Hfin, -⟩
  rw [wp_ret]; imodintro; imodintro
  isplitl [Hst]; · iexact Hst
  isplitl [Hfin]; · iexact Hfin
  isplitl [Hb] <;> iassumption

/-! ## The final memory, and the program's run -/

def fq (d : Dev nD) (s' : Phys nD τ sig (Elt F)) : Prop :=
  s'.mem.mem (zLoc d) = m (zLoc d) ∧ s'.mem.mem (cLoc d) = m (cLoc d) ∧ s'.mem.mem (rLoc d) = Rm m d

set_option maxRecDepth 16384 in
theorem hfin (d : Dev nD) (s' : Phys nD τ sig (Elt F)) : iprop(FIN m d ∗ SI s') ⊢ (⌜fq m d s'⌝ : sProp 𝕄) := by
  iintro ⟨⟨Hz, Hc, Hr⟩, HSI⟩
  ihave H := (persistent_entails_right (SI_pointsTo_agree (st := s') (ℓ := zLoc d) (I := Finset.univ) (q := fullShare) (f := m (zLoc d)))) $$ [HSI Hz]
  · isplitl [HSI] <;> iassumption
  icases H with ⟨%h1, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h2, HSI, -⟩
  ihave H := (SI_pointsTo_agree (st := s') (ℓ := rLoc d) (I := Finset.univ) (q := fullShare) (f := Rm m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (zLoc c) = m (zLoc c) ∧ r.2.mem (cLoc c) = m (cLoc c) ∧ r.2.mem (rLoc c) = Rm m c) ∧ r.2.sem = fun _ => 0

theorem run_main [∀ e, Nonempty (Elt F e)] (hI : ∀ d j, (Im m d j : BitVec 32).toNat < 1024) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Tm m) (Im m) (Om m)) (A := ∅) facts v₀
    (fun q hq => match q with | 0 => nomatch hq)
    (fun q _ => match q with | 0 => tileObl (Tm m) (Im m) (Om m) facts hI)
    (fun q _ => match q with | 0 => SparseCore.Cfg.VecSplit.of_plain (vecSplit (Tm m) (Im m) (Om m)))
    m ρ main (fun d => pipeGhost (F := F) d) (FIN m) (u₀ (F := F)) (sep_elim_left.trans (hu₀ (Tm m) (Im m) (Om m))) (hmain m ρ) (fq m) (hfin m) (QC m) (fun _ h hz => ⟨h, hz⟩)

end Cert.Proof.Ki

end
-- ==== Proof.Refrun.lean ====
/-
  The reference's program runs: on every device @main computes the table of squared distances, its argmin along the codes,
  and twice the codebook's rows at the argmin; the arguments keep their contents.
-/
module

public import proofs.«01_k».proof.ReferenceIdeal
public import proofs.«01_k».proof.Proof.Gen.ReferenceIdeal
public import Idealize.ShloMosaic.Lib.StableHlo.Run
public import Idealize.ShloMosaic.Lib.Quiescent
public import Idealize.ShloMosaic.Init

@[expose] public section

noncomputable section

namespace Cert.Proof.Rf

open Cert.ReferenceIdeal Cert.ReferenceIdeal.Gen
open Idealize.ShloMosaic Idealize.SL.Sem
open Idealize.ShloMosaic.StableHlo

variable {F : FTy → Type} [FloatOps F]

/-! ## What the reference computes -/

/-- The table of squared distances as the reference writes it: the row's norm, less twice the product, plus the code's norm. -/
def distances (z : FVec F S32768x64 .f32) (c : FVec F S1024x64 .f32) : FVec F S32768x1024 .f32 :=
  addf
    (subf
      (broadcastInDim S32768x1024 ![0, 1] bcast_S32768x1_S32768x1024_0_1
        (broadcastInDim S32768x1 ![0] bcast_S32768_S32768x1_0
          (Host.reduceAdd (mulf z z) (constant S_ .f32 0x00000000#32) reducesTo_S32768x64_S32768_d1 h_S_)))
      (mulf (broadcastInDim S32768x1024 ![] bcast_S_S32768x1024 (constant S_ .f32 0x40000000#32))
        (Host.dotGeneral dot_S32768x64_S64x1024_S32768x1024_1_0_0_1_n_n none z
          (transpose S64x1024 [1, 0] c transposes_S1024x64_S64x1024_1_0))))
    (broadcastInDim S32768x1024 ![0, 1] bcast_S1x1024_S32768x1024_0_1
      (broadcastInDim S1x1024 ![1] bcast_S1024_S1x1024_1
        (Host.reduceAdd (mulf c c) (constant S_ .f32 0x00000000#32) reducesTo_S1024x64_S1024_d1 h_S_)))

/-- The position of a row's least distance. -/
def pick (d : FVec F S32768x1024 .f32) : IVec S32768 32 := fun j =>
  (Host.argReduce reducer_argmin_f32_i32 d (iotaInDim S32768x1024 32 1) (constant S_ .f32 0x7F800000#32) (constantI S_ 32 0#32)
    reducesTo_S32768x1024_S32768_d1 h_S_ j).2

/-- A position below zero counts from the end. -/
def wrapped (i : IVec S32768 32) : IVec S32768 32 :=
  select (cmpi .slt i (broadcastInDim S32768 ![] bcast_S_S32768 (constantI S_ 32 0#32)))
    (addi i (broadcastInDim S32768 ![] bcast_S_S32768 (constantI S_ 32 1024#32))) i

/-- Whether a position is one of the codebook's. -/
def inside (w : IVec S32768x1 32) : IVec S32768 1 :=
  Host.reduce IntOp.andi
    (andi (cmpi .sge w (broadcastInDim S32768x1 ![] bcast_S_S32768x1 (constantI S_ 32 0#32)))
      (cmpi .sle w (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The codebook's rows at the given positions, and NaN at a position outside. -/
def take (c : FVec F S1024x64 .f32) (i : IVec S32768 32) : FVec F S32768x64 .f32 :=
  select (broadcastInDim S32768x64 ![0] bcast_S32768_S32768x64_0
      (inside (broadcastInDim S32768x1 ![0] bcast_S32768_S32768x1_0 (wrapped i))))
    (Host.gather gather_S1024x64_S32768x1_S32768x64_1_0_n_n_0_1_164 c
      (broadcastInDim S32768x1 ![0] bcast_S32768_S32768x1_0 (wrapped i)))
    (broadcastInDim S32768x64 ![] bcast_S_S32768x64 (constant S_ .f32 0x7FC00000#32))

/-! ## The operations -/

/-- The operations that compute the table of squared distances. -/
def distOps : List (HloOp τ sig (Elt F)) :=
  [binary main_arg0 main_arg0 main_v0 (mulf : (⟨S32768x64, .f32⟩ : BufTy).Contents (Elt F) → (⟨S32768x64, .f32⟩ : BufTy).Contents (Elt F) → (⟨S32768x64, .f32⟩ : BufTy).Contents (Elt F)),
   nullary main_cst (constant S_ .f32 0x00000000#32),
   binary main_v0 main_cst main_v1 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
   unary main_v1 main_v2 (broadcastInDim S32768x1 ![0] bcast_S32768_S32768x1_0 : (⟨S32768, .f32⟩ : BufTy).Contents (Elt F) → (⟨S32768x1, .f32⟩ : BufTy).Contents (Elt F)),
   binary main_arg1 main_arg1 main_v3 (mulf : (⟨S1024x64, .f32⟩ : BufTy).Contents (Elt F) → (⟨S1024x64, .f32⟩ : BufTy).Contents (Elt F) → (⟨S1024x64, .f32⟩ : BufTy).Contents (Elt F)),
   nullary main_cst_0 (constant S_ .f32 0x00000000#32),
   binary main_v3 main_cst_0 main_v4 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
   unary main_arg1 main_v5 ((transpose S64x1024 [1, 0] · transposes_S1024x64_S64x1024_1_0) : (⟨S1024x64, .f32⟩ : BufTy).Contents (Elt F) → (⟨S64x1024, .f32⟩ : BufTy).Contents (Elt F)),
   binary main_arg0 main_v5 main_v6 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
   nullary main_cst_1 (constant S_ .f32 0x40000000#32),
   unary main_cst_1 main_v7 (broadcastInDim S32768x1024 ![] bcast_S_S32768x1024 : (⟨S_, .f32⟩ : BufTy).Contents (Elt F) → (⟨S32768x1024, .f32⟩ : BufTy).Contents (Elt F)),
   binary main_v7 main_v6 main_v8 (mulf : (⟨S32768x1024, .f32⟩ : BufTy).Contents (Elt F) → (⟨S32768x1024, .f32⟩ : BufTy).Contents (Elt F) → (⟨S32768x1024, .f32⟩ : BufTy).Contents (Elt F)),
   unary main_v2 main_v9 (broadcastInDim S32768x1024 ![0, 1] bcast_S32768x1_S32768x1024_0_1 : (⟨S32768x1, .f32⟩ : BufTy).Contents (Elt F) → (⟨S32768x1024, .f32⟩ : BufTy).Contents (Elt F)),
   binary main_v9 main_v8 main_v10 (subf : (⟨S32768x1024, .f32⟩ : BufTy).Contents (Elt F) → (⟨S32768x1024, .f32⟩ : BufTy).Contents (Elt F) → (⟨S32768x1024, .f32⟩ : BufTy).Contents (Elt F)),
   unary main_v4 main_v11 (broadcastInDim S1x1024 ![1] bcast_S1024_S1x1024_1 : (⟨S1024, .f32⟩ : BufTy).Contents (Elt F) → (⟨S1x1024, .f32⟩ : BufTy).Contents (Elt F)),
   unary main_v11 main_v12 (broadcastInDim S32768x1024 ![0, 1] bcast_S1x1024_S32768x1024_0_1 : (⟨S1x1024, .f32⟩ : BufTy).Contents (Elt F) → (⟨S32768x1024, .f32⟩ : BufTy).Contents (Elt F)),
   binary main_v10 main_v12 main_v13 (addf : (⟨S32768x1024, .f32⟩ : BufTy).Contents (Elt F) → (⟨S32768x1024, .f32⟩ : BufTy).Contents (Elt F) → (⟨S32768x1024, .f32⟩ : BufTy).Contents (Elt F))]

/-- The operations of the argmin's call. -/
def pickOps : List (HloOp τ sig (Elt F)) :=
  [TRef.nullary (.of main_call0_v0 : TRef sig ⟨S32768x1024, .i32⟩) (iotaInDim S32768x1024 32 1),
   TRef.nullary (.of main_call0_cst : TRef sig ⟨S_, .f32⟩) (constant S_ .f32 0x7F800000#32),
   TRef.nullary (.of main_call0_c : TRef sig ⟨S_, .i32⟩) (constantI S_ 32 0#32),
   TRef.quaternary (.of main_v13 : TRef sig ⟨S32768x1024, .f32⟩) (.of main_call0_v0 : TRef sig ⟨S32768x1024, .i32⟩) (.of main_call0_cst : TRef sig ⟨S_, .f32⟩) (.of main_call0_c : TRef sig ⟨S_, .i32⟩) (.of main_call0_v1_0 : TRef sig ⟨S32768, .f32⟩) (fun x y u v j => (Host.argReduce reducer_argmin_f32_i32 x y u v reducesTo_S32768x1024_S32768_d1 h_S_ j).1),
   TRef.quaternary (.of main_v13 : TRef sig ⟨S32768x1024, .f32⟩) (.of main_call0_v0 : TRef sig ⟨S32768x1024, .i32⟩) (.of main_call0_cst : TRef sig ⟨S_, .f32⟩) (.of main_call0_c : TRef sig ⟨S_, .i32⟩) (.of main_v14 : TRef sig ⟨S32768, .i32⟩) (fun x y u v j => (Host.argReduce reducer_argmin_f32_i32 x y u v reducesTo_S32768x1024_S32768_d1 h_S_ j).2)]

/-- The operations of the first result's take. -/
def takeOps₁ : List (HloOp τ sig (Elt F)) :=
  [TRef.nullary (.of main_call1_c : TRef sig ⟨S_, .i32⟩) (constantI S_ 32 0#32),
   TRef.unary (.of main_call1_c : TRef sig ⟨S_, .i32⟩) (.of main_call1_v0 : TRef sig ⟨S32768, .i32⟩) (broadcastInDim S32768 ![] bcast_S_S32768),
   TRef.binary (.of main_v14 : TRef sig ⟨S32768, .i32⟩) (.of main_call1_v0 : TRef sig ⟨S32768, .i32⟩) (.of main_call1_v1 : TRef sig ⟨S32768, .i1⟩) (cmpi .slt),
   TRef.nullary (.of main_call1_c_0 : TRef sig ⟨S_, .i32⟩) (constantI S_ 32 1024#32),
   TRef.unary (.of main_call1_c_0 : TRef sig ⟨S_, .i32⟩) (.of main_call1_v2 : TRef sig ⟨S32768, .i32⟩) (broadcastInDim S32768 ![] bcast_S_S32768),
   TRef.binary (.of main_v14 : TRef sig ⟨S32768, .i32⟩) (.of main_call1_v2 : TRef sig ⟨S32768, .i32⟩) (.of main_call1_v3 : TRef sig ⟨S32768, .i32⟩) addi,
   TRef.ternary (.of main_call1_v1 : TRef sig ⟨S32768, .i1⟩) (.of main_call1_v3 : TRef sig ⟨S32768, .i32⟩) (.of main_v14 : TRef sig ⟨S32768, .i32⟩) (.of main_call1_v4 : TRef sig ⟨S32768, .i32⟩) select,
   TRef.unary (.of main_call1_v4 : TRef sig ⟨S32768, .i32⟩) (.of main_call1_v5 : TRef sig ⟨S32768x1, .i32⟩) (broadcastInDim S32768x1 ![0] bcast_S32768_S32768x1_0),
   TRef.nullary (.of main_call1_c_1 : TRef sig ⟨S1, .i32⟩) (constantI S1 32 1023#32),
   TRef.nullary (.of main_call1_c_2 : TRef sig ⟨S_, .i32⟩) (constantI S_ 32 0#32),
   TRef.unary (.of main_call1_c_2 : TRef sig ⟨S_, .i32⟩) (.of main_call1_v6 : TRef sig ⟨S32768x1, .i32⟩) (broadcastInDim S32768x1 ![] bcast_S_S32768x1),
   TRef.binary (.of main_call1_v5 : TRef sig ⟨S32768x1, .i32⟩) (.of main_call1_v6 : TRef sig ⟨S32768x1, .i32⟩) (.of main_call1_v7 : TRef sig ⟨S32768x1, .i1⟩) (cmpi .sge),
   TRef.unary (.of main_call1_c_1 : TRef sig ⟨S1, .i32⟩) (.of main_call1_v8 : TRef sig ⟨S1x1, .i32⟩) (broadcastInDim S1x1 ![1] bcast_S1_S1x1_1),
   TRef.unary (.of main_call1_v8 : TRef sig ⟨S1x1, .i32⟩) (.of main_call1_v9 : TRef sig ⟨S32768x1, .i32⟩) (broadcastInDim S32768x1 ![0, 1] bcast_S1x1_S32768x1_0_1),
   TRef.binary (.of main_call1_v5 : TRef sig ⟨S32768x1, .i32⟩) (.of main_call1_v9 : TRef sig ⟨S32768x1, .i32⟩) (.of main_call1_v10 : TRef sig ⟨S32768x1, .i1⟩) (cmpi .sle),
   TRef.binary (.of main_call1_v7 : TRef sig ⟨S32768x1, .i1⟩) (.of main_call1_v10 : TRef sig ⟨S32768x1, .i1⟩) (.of main_call1_v11 : TRef sig ⟨S32768x1, .i1⟩) andi,
   TRef.nullary (.of main_call1_c_3 : TRef sig ⟨S_, .i1⟩) (constantI S_ 1 1#1),
   TRef.binary (.of main_call1_v11 : TRef sig ⟨S32768x1, .i1⟩) (.of main_call1_c_3 : TRef sig ⟨S_, .i1⟩) (.of main_call1_v12 : TRef sig ⟨S32768, .i1⟩) (fun x v => Host.reduce IntOp.andi x v reducesTo_S32768x1_S32768_d1 h_S_),
   TRef.binary (.of main_arg1 : TRef sig ⟨S1024x64, .f32⟩) (.of main_call1_v5 : TRef sig ⟨S32768x1, .i32⟩) (.of main_call1_v13 : TRef sig ⟨S32768x64, .f32⟩) (fun x i => Host.gather gather_S1024x64_S32768x1_S32768x64_1_0_n_n_0_1_164 x i),
   TRef.unary (.of main_call1_v12 : TRef sig ⟨S32768, .i1⟩) (.of main_call1_v14 : TRef sig ⟨S32768x64, .i1⟩) (broadcastInDim S32768x64 ![0] bcast_S32768_S32768x64_0),
   TRef.nullary (.of main_call1_cst : TRef sig ⟨S_, .f32⟩) (constant S_ .f32 0x7FC00000#32),
   TRef.unary (.of main_call1_cst : TRef sig ⟨S_, .f32⟩) (.of main_call1_v15 : TRef sig ⟨S32768x64, .f32⟩) (broadcastInDim S32768x64 ![] bcast_S_S32768x64),
   TRef.ternary (.of main_call1_v14 : TRef sig ⟨S32768x64, .i1⟩) (.of main_call1_v13 : TRef sig ⟨S32768x64, .f32⟩) (.of main_call1_v15 : TRef sig ⟨S32768x64, .f32⟩) (.of main_v15 : TRef sig ⟨S32768x64, .f32⟩) select]

/-- The operations of the second result's take. -/
def takeOps₂ : List (HloOp τ sig (Elt F)) :=
  [TRef.nullary (.of main_call2_c : TRef sig ⟨S_, .i32⟩) (constantI S_ 32 0#32),
   TRef.unary (.of main_call2_c : TRef sig ⟨S_, .i32⟩) (.of main_call2_v0 : TRef sig ⟨S32768, .i32⟩) (broadcastInDim S32768 ![] bcast_S_S32768),
   TRef.binary (.of main_v14 : TRef sig ⟨S32768, .i32⟩) (.of main_call2_v0 : TRef sig ⟨S32768, .i32⟩) (.of main_call2_v1 : TRef sig ⟨S32768, .i1⟩) (cmpi .slt),
   TRef.nullary (.of main_call2_c_0 : TRef sig ⟨S_, .i32⟩) (constantI S_ 32 1024#32),
   TRef.unary (.of main_call2_c_0 : TRef sig ⟨S_, .i32⟩) (.of main_call2_v2 : TRef sig ⟨S32768, .i32⟩) (broadcastInDim S32768 ![] bcast_S_S32768),
   TRef.binary (.of main_v14 : TRef sig ⟨S32768, .i32⟩) (.of main_call2_v2 : TRef sig ⟨S32768, .i32⟩) (.of main_call2_v3 : TRef sig ⟨S32768, .i32⟩) addi,
   TRef.ternary (.of main_call2_v1 : TRef sig ⟨S32768, .i1⟩) (.of main_call2_v3 : TRef sig ⟨S32768, .i32⟩) (.of main_v14 : TRef sig ⟨S32768, .i32⟩) (.of main_call2_v4 : TRef sig ⟨S32768, .i32⟩) select,
   TRef.unary (.of main_call2_v4 : TRef sig ⟨S32768, .i32⟩) (.of main_call2_v5 : TRef sig ⟨S32768x1, .i32⟩) (broadcastInDim S32768x1 ![0] bcast_S32768_S32768x1_0),
   TRef.nullary (.of main_call2_c_1 : TRef sig ⟨S1, .i32⟩) (constantI S1 32 1023#32),
   TRef.nullary (.of main_call2_c_2 : TRef sig ⟨S_, .i32⟩) (constantI S_ 32 0#32),
   TRef.unary (.of main_call2_c_2 : TRef sig ⟨S_, .i32⟩) (.of main_call2_v6 : TRef sig ⟨S32768x1, .i32⟩) (broadcastInDim S32768x1 ![] bcast_S_S32768x1),
   TRef.binary (.of main_call2_v5 : TRef sig ⟨S32768x1, .i32⟩) (.of main_call2_v6 : TRef sig ⟨S32768x1, .i32⟩) (.of main_call2_v7 : TRef sig ⟨S32768x1, .i1⟩) (cmpi .sge),
   TRef.unary (.of main_call2_c_1 : TRef sig ⟨S1, .i32⟩) (.of main_call2_v8 : TRef sig ⟨S1x1, .i32⟩) (broadcastInDim S1x1 ![1] bcast_S1_S1x1_1),
   TRef.unary (.of main_call2_v8 : TRef sig ⟨S1x1, .i32⟩) (.of main_call2_v9 : TRef sig ⟨S32768x1, .i32⟩) (broadcastInDim S32768x1 ![0, 1] bcast_S1x1_S32768x1_0_1),
   TRef.binary (.of main_call2_v5 : TRef sig ⟨S32768x1, .i32⟩) (.of main_call2_v9 : TRef sig ⟨S32768x1, .i32⟩) (.of main_call2_v10 : TRef sig ⟨S32768x1, .i1⟩) (cmpi .sle),
   TRef.binary (.of main_call2_v7 : TRef sig ⟨S32768x1, .i1⟩) (.of main_call2_v10 : TRef sig ⟨S32768x1, .i1⟩) (.of main_call2_v11 : TRef sig ⟨S32768x1, .i1⟩) andi,
   TRef.nullary (.of main_call2_c_3 : TRef sig ⟨S_, .i1⟩) (constantI S_ 1 1#1),
   TRef.binary (.of main_call2_v11 : TRef sig ⟨S32768x1, .i1⟩) (.of main_call2_c_3 : TRef sig ⟨S_, .i1⟩) (.of main_call2_v12 : TRef sig ⟨S32768, .i1⟩) (fun x v => Host.reduce IntOp.andi x v reducesTo_S32768x1_S32768_d1 h_S_),
   TRef.binary (.of main_arg1 : TRef sig ⟨S1024x64, .f32⟩) (.of main_call2_v5 : TRef sig ⟨S32768x1, .i32⟩) (.of main_call2_v13 : TRef sig ⟨S32768x64, .f32⟩) (fun x i => Host.gather gather_S1024x64_S32768x1_S32768x64_1_0_n_n_0_1_164 x i),
   TRef.unary (.of main_call2_v12 : TRef sig ⟨S32768, .i1⟩) (.of main_call2_v14 : TRef sig ⟨S32768x64, .i1⟩) (broadcastInDim S32768x64 ![0] bcast_S32768_S32768x64_0),
   TRef.nullary (.of main_call2_cst : TRef sig ⟨S_, .f32⟩) (constant S_ .f32 0x7FC00000#32),
   TRef.unary (.of main_call2_cst : TRef sig ⟨S_, .f32⟩) (.of main_call2_v15 : TRef sig ⟨S32768x64, .f32⟩) (broadcastInDim S32768x64 ![] bcast_S_S32768x64),
   TRef.ternary (.of main_call2_v14 : TRef sig ⟨S32768x64, .i1⟩) (.of main_call2_v13 : TRef sig ⟨S32768x64, .f32⟩) (.of main_call2_v15 : TRef sig ⟨S32768x64, .f32⟩) (.of main_v16 : TRef sig ⟨S32768x64, .f32⟩) select]

/-- All of @main's operations. -/
def ops : List (HloOp τ sig (Elt F)) := distOps ++ (pickOps ++ (takeOps₁ ++ takeOps₂))

theorem distOps_sub : (distOps : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem pickOps_sub : (pickOps : List (HloOp τ sig (Elt F))).Forall fun op => op.bufs ⊆ tcRefs τ sig :=
  ⟨nullary_bufs_sub .., nullary_bufs_sub .., nullary_bufs_sub .., quaternary_bufs_sub .., quaternary_bufs_sub ..⟩

theorem takeOps₁_sub : (takeOps₁ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem takeOps₂_sub : (takeOps₂ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The operations read and write the TensorCore's arrays only. -/
theorem ops_sub : (ops : List (HloOp τ sig (Elt F))).Forall fun op => op.bufs ⊆ tcRefs τ sig := by
  unfold ops
  rw [List.forall_append, List.forall_append, List.forall_append]
  exact ⟨distOps_sub, pickOps_sub, takeOps₁_sub, takeOps₂_sub⟩

/-- @main is these operations in order. -/
theorem main_eq (d : Dev nD) : main (F := F) d = seq ops := rfl

theorem noScopedRefs : (Finset.univ.filter fun b : Ref sig .tc => b.isScoped) = ∅ := by decide
theorem noScopedSems : (Finset.univ.filter fun s : SemLoc sig => s.isScoped .tc) = ∅ := by decide

theorem after_join (l₁ l₂ : List (HloOp τ sig (Elt F))) (V : Valuation τ sig (Elt F)) : after (l₁ ++ l₂) V = after l₂ (after l₁ V) := by
  induction l₁ generalizing V with
  | nil => rfl
  | cons o l ih => exact ih _

/-! ## What the operations leave -/

variable (V : Valuation τ sig (Elt F))

theorem dist_v13 : after distOps V (Proc.devRef .tc main_v13) = distances (V (Proc.devRef .tc main_arg0)) (V (Proc.devRef .tc main_arg1)) := by
  unfold distOps
  after_results_simp
  rfl
theorem dist_arg0 : after distOps V (Proc.devRef .tc main_arg0) = V (Proc.devRef .tc main_arg0) := by
  unfold distOps
  after_results_simp
theorem dist_arg1 : after distOps V (Proc.devRef .tc main_arg1) = V (Proc.devRef .tc main_arg1) := by
  unfold distOps
  after_results_simp

theorem pick_v14 : after pickOps V (Proc.devRef .tc main_v14) = pick (V (Proc.devRef .tc main_v13)) := by
  simp only [pickOps, TRef.nullary, TRef.quaternary, TRef.toBuf, TRef.ofBuf, cast_eq]
  after_results_simp
  rfl
theorem pick_arg0 : after pickOps V (Proc.devRef .tc main_arg0) = V (Proc.devRef .tc main_arg0) := by
  simp only [pickOps, TRef.nullary, TRef.quaternary, TRef.toBuf, TRef.ofBuf, cast_eq]
  after_results_simp
theorem pick_arg1 : after pickOps V (Proc.devRef .tc main_arg1) = V (Proc.devRef .tc main_arg1) := by
  simp only [pickOps, TRef.nullary, TRef.quaternary, TRef.toBuf, TRef.ofBuf, cast_eq]
  after_results_simp

theorem take₁_v15 : after takeOps₁ V (Proc.devRef .tc main_v15) = take (V (Proc.devRef .tc main_arg1)) (V (Proc.devRef .tc main_v14)) := by
  simp only [takeOps₁, TRef.nullary, TRef.unary, TRef.binary, TRef.ternary, TRef.toBuf, TRef.ofBuf, cast_eq]
  after_results_simp
  rfl
theorem take₁_arg0 : after takeOps₁ V (Proc.devRef .tc main_arg0) = V (Proc.devRef .tc main_arg0) := by
  simp only [takeOps₁, TRef.nullary, TRef.unary, TRef.binary, TRef.ternary, TRef.toBuf, TRef.ofBuf, cast_eq]
  after_results_simp
theorem take₁_arg1 : after takeOps₁ V (Proc.devRef .tc main_arg1) = V (Proc.devRef .tc main_arg1) := by
  simp only [takeOps₁, TRef.nullary, TRef.unary, TRef.binary, TRef.ternary, TRef.toBuf, TRef.ofBuf, cast_eq]
  after_results_simp
theorem take₁_v14 : after takeOps₁ V (Proc.devRef .tc main_v14) = V (Proc.devRef .tc main_v14) := by
  simp only [takeOps₁, TRef.nullary, TRef.unary, TRef.binary, TRef.ternary, TRef.toBuf, TRef.ofBuf, cast_eq]
  after_results_simp

theorem take₂_v16 : after takeOps₂ V (Proc.devRef .tc main_v16) = take (V (Proc.devRef .tc main_arg1)) (V (Proc.devRef .tc main_v14)) := by
  simp only [takeOps₂, TRef.nullary, TRef.unary, TRef.binary, TRef.ternary, TRef.toBuf, TRef.ofBuf, cast_eq]
  after_results_simp
  rfl
theorem take₂_arg0 : after takeOps₂ V (Proc.devRef .tc main_arg0) = V (Proc.devRef .tc main_arg0) := by
  simp only [takeOps₂, TRef.nullary, TRef.unary, TRef.binary, TRef.ternary, TRef.toBuf, TRef.ofBuf, cast_eq]
  after_results_simp
theorem take₂_arg1 : after takeOps₂ V (Proc.devRef .tc main_arg1) = V (Proc.devRef .tc main_arg1) := by
  simp only [takeOps₂, TRef.nullary, TRef.unary, TRef.binary, TRef.ternary, TRef.toBuf, TRef.ofBuf, cast_eq]
  after_results_simp
theorem take₂_v14 : after takeOps₂ V (Proc.devRef .tc main_v14) = V (Proc.devRef .tc main_v14) := by
  simp only [takeOps₂, TRef.nullary, TRef.unary, TRef.binary, TRef.ternary, TRef.toBuf, TRef.ofBuf, cast_eq]
  after_results_simp
theorem take₂_v15 : after takeOps₂ V (Proc.devRef .tc main_v15) = V (Proc.devRef .tc main_v15) := by
  simp only [takeOps₂, TRef.nullary, TRef.unary, TRef.binary, TRef.ternary, TRef.toBuf, TRef.ofBuf, cast_eq]
  after_results_simp

/-- Each result is the codebook's rows at the positions of the least distances. -/
theorem ops_v15 : after ops V (Proc.devRef .tc main_v15)
    = take (V (Proc.devRef .tc main_arg1)) (pick (distances (V (Proc.devRef .tc main_arg0)) (V (Proc.devRef .tc main_arg1)))) := by
  unfold ops
  rw [after_join, after_join, after_join, take₂_v15, take₁_v15, pick_arg1, pick_v14, dist_arg1, dist_v13]
theorem ops_v16 : after ops V (Proc.devRef .tc main_v16)
    = take (V (Proc.devRef .tc main_arg1)) (pick (distances (V (Proc.devRef .tc main_arg0)) (V (Proc.devRef .tc main_arg1)))) := by
  unfold ops
  rw [after_join, after_join, after_join, take₂_v16, take₁_arg1, take₁_v14, pick_arg1, pick_v14, dist_arg1, dist_v13]
theorem ops_arg0 : after ops V (Proc.devRef .tc main_arg0) = V (Proc.devRef .tc main_arg0) := by
  unfold ops
  rw [after_join, after_join, after_join, take₂_arg0, take₁_arg0, pick_arg0, dist_arg0]
theorem ops_arg1 : after ops V (Proc.devRef .tc main_arg1) = V (Proc.devRef .tc main_arg1) := by
  unfold ops
  rw [after_join, after_join, after_join, take₂_arg1, take₁_arg1, pick_arg1, dist_arg1]

/-! ## The run -/

variable (m : (ℓ : Loc nD τ sig) → Buf (Elt F) ℓ) (ρ : Dev nD → PrngReg)

/-- Where a device's arrays stand. -/
abbrev zLoc (d : Dev nD) : Loc nD τ sig := (d.tc : Thread nD τ).loc main_arg0
@[inherit_doc zLoc] abbrev cLoc (d : Dev nD) : Loc nD τ sig := (d.tc : Thread nD τ).loc main_arg1
@[inherit_doc zLoc] abbrev r₁Loc (d : Dev nD) : Loc nD τ sig := (d.tc : Thread nD τ).loc main_v15
@[inherit_doc zLoc] abbrev r₂Loc (d : Dev nD) : Loc nD τ sig := (d.tc : Thread nD τ).loc main_v16

/-- What both results of a device end at. -/
def Rm (d : Dev nD) : FVec F S32768x64 .f32 :=
  take (m (cLoc d) : FVec F S1024x64 .f32) (pick (distances (m (zLoc d)) (m (cLoc d))))

/-- The reference runs, its results end at `Rm`, and its arguments keep their contents. -/
theorem run_main : θ_run (defs (F := F)) (onTc (τ := τ) (main (F := F))) ⟨m, fun _ => 0, ρ⟩ fun r =>
    (∀ d, r.2.mem (r₁Loc d) = Rm m d ∧ r.2.mem (r₂Loc d) = Rm m d ∧ r.2.mem (zLoc d) = m (zLoc d) ∧ r.2.mem (cLoc d) = m (cLoc d))
      ∧ r.2.sem = fun _ => 0 :=
  (θ_run defs _ _).mono
    (fun r h => ⟨fun d => ⟨(h d main_v15).trans (ops_v15 _), (h d main_v16).trans (ops_v16 _), (h d main_arg0).trans (ops_arg0 _),
        (h d main_arg1).trans (ops_arg1 _)⟩, sem_eq_zero_of_no_sems (by decide) r.2⟩)
    (run_seq noScopedRefs noScopedSems defs main (fun _ => ops) main_eq (fun _ => ops_sub) m ρ (fun _ => by
      unfold ops distOps pickOps takeOps₁ takeOps₂
      intro o h
      simp only [List.cons_append, List.nil_append] at h
      (repeat (cases h with | head => rfl | tail _ h => ?_)); exact nomatch h))

end Cert.Proof.Rf

end
-- ==== Proof.Least.lean ====
/-
  The first position of a table's least value, found in two ways: as the least position that holds the minimum, and by
  carrying the lesser (value, position) pair along the table.
-/
module

public import Idealize.ShloMosaic.PureOps
public import Idealize.ShloMosaic.PureOps.Reduce
public import Mathlib.Data.Prod.Lex
public import Mathlib.Data.EReal.Basic
public import Mathlib.Data.Finset.Fold
public import Mathlib.Data.Finset.Max

@[expose] public section

noncomputable section

namespace Cert.Proof.Least

open Idealize.ShloMosaic

variable (f : Fin 1024 → EReal)

/-- There is a position whose (value, position) pair is the least. -/
theorem exists_first : ∃ n : Fin 1024, ∀ k : Fin 1024, f n < f k ∨ f n = f k ∧ n ≤ k := by
  obtain ⟨n, -, hn⟩ := Finset.exists_min_image Finset.univ (fun k : Fin 1024 => (toLex (f k, k) : EReal ×ₗ Fin 1024)) Finset.univ_nonempty
  exact ⟨n, fun k => by simpa only [Prod.Lex.toLex_le_toLex] using hn k (Finset.mem_univ k)⟩

/-- The first position of the least value. -/
def first : Fin 1024 := (exists_first f).choose

theorem first_spec (k : Fin 1024) : f (first f) < f k ∨ f (first f) = f k ∧ first f ≤ k := (exists_first f).choose_spec k

theorem first_le (k : Fin 1024) : f (first f) ≤ f k := by
  rcases first_spec f k with h | h
  · exact h.le
  · exact h.1.le

/-- The word of a position. -/
abbrev word (n : Fin 1024) : BitVec 32 := BitVec.ofNat 32 n.val

theorem word_toNat (n : Fin 1024) : (word n).toNat = n.val := by
  have := n.isLt
  simp only [word, BitVec.toNat_ofNat]; omega
theorem word_toInt (n : Fin 1024) : (word n).toInt = n.val := by
  have := n.isLt
  rw [BitVec.toInt_eq_toNat_cond, word_toNat]; split <;> omega

/-! ## The minimum, then the least position that holds it -/

theorem fold_min : (Finset.univ : Finset (Fin 1024)).fold min ⊤ f = f (first f) :=
  le_antisymm ((Finset.fold_min_le _).2 (Or.inr ⟨first f, Finset.mem_univ _, le_rfl⟩))
    ((Finset.le_fold_min _).2 ⟨le_top, fun k _ => first_le f k⟩)

theorem minsi_toInt (x y : BitVec 32) : (IntOp.minsi x y).toInt = min x.toInt y.toInt := by
  unfold IntOp.minsi
  rw [BitVec.slt_eq_decide]
  by_cases h : x.toInt < y.toInt
  · simp [h, h.le]
  · simp [h, not_lt.mp h]

/-- The least position whose value equals the least value is the first position of the least value. -/
theorem fold_minsi :
    (Finset.univ : Finset (Fin 1024)).fold IntOp.minsi 2147483647#32 (fun k => if f k = f (first f) then word k else 1024#32)
      = word (first f) := by
  apply BitVec.eq_of_toInt_eq
  rw [← Finset.fold_hom (op' := (min : ℤ → ℤ → ℤ)) (m := BitVec.toInt) minsi_toInt, word_toInt]
  have hf := (first f).isLt
  refine le_antisymm ((Finset.fold_min_le _).2 (Or.inr ⟨first f, Finset.mem_univ _, ?_⟩)) ((Finset.le_fold_min _).2 ⟨?_, fun k _ => ?_⟩)
  · rw [if_pos rfl, word_toInt]
  · have : (2147483647#32 : BitVec 32).toInt = 2147483647 := by decide
    omega
  · split
    · rename_i h
      rw [word_toInt]
      rcases first_spec f k with h' | h'
      · exact absurd h h'.ne'
      · exact_mod_cast h'.2
    · have : (1024#32 : BitVec 32).toInt = 1024 := by decide
      omega

/-! ## The lesser pair carried along -/

/-- The lesser of two (value, word) pairs. -/
def lesser (a b : EReal × BitVec 32) : EReal × BitVec 32 :=
  (if a.1 < b.1 then a.1 else b.1, if a.1 < b.1 ∨ a.1 = b.1 ∧ a.2.toInt < b.2.toInt then a.2 else b.2)

/-- A pair in the order that `lesser` follows. -/
def key (a : EReal × BitVec 32) : EReal ×ₗ ℤ := toLex (a.1, a.2.toInt)

theorem key_le (a b : EReal × BitVec 32) : key a ≤ key b ↔ a.1 < b.1 ∨ a.1 = b.1 ∧ a.2.toInt ≤ b.2.toInt := Prod.Lex.toLex_le_toLex

theorem key_injective : Function.Injective key := fun a b h => by
  have h' : ((a.1, a.2.toInt) : EReal × ℤ) = (b.1, b.2.toInt) := toLex.injective h
  rw [Prod.mk.injEq] at h'
  exact Prod.ext h'.1 (BitVec.eq_of_toInt_eq h'.2)

theorem key_lesser (a b : EReal × BitVec 32) : key (lesser a b) = min (key a) (key b) := by
  rcases lt_trichotomy a.1 b.1 with h | h | h
  · rw [min_eq_left ((key_le a b).2 (Or.inl h))]
    simp [lesser, key, h]
  · by_cases h2 : a.2.toInt < b.2.toInt
    · rw [min_eq_left ((key_le a b).2 (Or.inr ⟨h, h2.le⟩))]
      simp [lesser, key, h, h2]
    · rw [min_eq_right ((key_le b a).2 (Or.inr ⟨h.symm, not_lt.mp h2⟩))]
      simp [lesser, key, h, h2]
  · rw [min_eq_right ((key_le b a).2 (Or.inl h))]
    simp [lesser, key, h.not_gt, h.ne']

instance : Std.Commutative lesser := ⟨fun a b => key_injective (by rw [key_lesser, key_lesser, min_comm])⟩
instance : Std.Associative lesser :=
  ⟨fun a b c => key_injective (by rw [key_lesser, key_lesser, key_lesser, key_lesser, min_assoc])⟩

/-- The least pair, from infinity at position zero, is at the first position of the least value. -/
theorem fold_lesser :
    (Finset.univ : Finset (Fin 1024)).fold lesser (⊤, 0#32) (fun k => (f k, word k)) = (f (first f), word (first f)) := by
  apply key_injective
  rw [← Finset.fold_hom (op' := (min : EReal ×ₗ ℤ → EReal ×ₗ ℤ → EReal ×ₗ ℤ)) (m := key) key_lesser]
  refine le_antisymm ((Finset.fold_min_le _).2 (Or.inr ⟨first f, Finset.mem_univ _, le_rfl⟩))
    ((Finset.le_fold_min _).2 ⟨(key_le _ _).2 ?_, fun k _ => (key_le _ _).2 ?_⟩)
  · rcases first_spec f 0 with h | h
    · exact Or.inl (lt_of_lt_of_le h le_top)
    · have h0 : first f = 0 := le_antisymm h.2 (Fin.zero_le _)
      rcases eq_or_ne (f (first f)) ⊤ with ht | ht
      · exact Or.inr ⟨ht, by simp only [word_toInt, h0]; decide⟩
      · exact Or.inl (lt_top_iff_ne_top.2 ht)
  · rcases first_spec f k with h | h
    · exact Or.inl h
    · exact Or.inr ⟨h.1, by simp only [word_toInt]; exact_mod_cast h.2⟩

end Cert.Proof.Least

end
-- ==== Proof.Dist.lean ====
/-
  The squared distance of two rows of 64 numbers, and its first least code.
-/
module

public import proofs.«01_k».proof.Proof.Least
public import Idealize.ShloMosaic.PureOps.Ideal.Laws
public import Idealize.ShloMosaic.Lib.Pipeline.Value
public import Idealize.ShloMosaic.Lib.ValueIdx
public import Idealize.ShloMosaic.Lib.IdealHost

@[expose] public section

noncomputable section

namespace Cert.Proof

open Idealize.ShloMosaic
open scoped BigOperators

/-- The squared distance of a row from a code: the row's norm, less twice their product, plus the code's norm. -/
def sqd (a b : Fin 64 → EReal) : EReal :=
  (∑ l, a l * a l) - Ideal.ofBits .f32 0x40000000#32 * (∑ l, a l * b l) + ∑ l, b l * b l

/-- Positive infinity's pattern is the top of the extended reals. -/
theorem ofBits_top : Ideal.ofBits .f32 0x7F800000#32 = (⊤ : EReal) := by
  simp [Ideal.ofBits, Ideal.ieee]

end Cert.Proof
-- ==== Proof.Block.lean ====
/-
  What a block of the first region computes on the extended reals: at each row the first code of least squared distance.
-/
module

public import proofs.«01_k».proof.Proof.Region
public import proofs.«01_k».proof.Proof.Dist

@[expose] public section

noncomputable section

namespace Cert.Proof.Ki

open Cert.KernelIdeal Cert.KernelIdeal.Gen
open Idealize.ShloMosaic Idealize.ShloMosaic.ValueIdx
open scoped BigOperators

/-- A column vector read at a place is the vector at its row. -/
theorem col_apply {α : Type} (v : S512.Idx → α) (p : Fin 512) :
    shapeCast S512x1 v shapeCasts_S512_S512x1 (ix2 p (0 : Fin 1)) = v (ix1 p) :=
  shapeCast_apply _ _ _ _ (by rw [Shape.rowMajor_val_one, Shape.rowMajor_val_two]; show p.val = p.val * 1 + 0; omega)

/-- A row vector read at a place is the vector at its column. -/
theorem row_apply {α : Type} (v : S1024.Idx → α) (k : Fin 1024) :
    shapeCast S1x1024 v shapeCasts_S1024_S1x1024 (ix2 (0 : Fin 1) k) = v (ix1 k) :=
  shapeCast_apply _ _ _ _ (by rw [Shape.rowMajor_val_one, Shape.rowMajor_val_two]; show k.val = 0 * 1024 + k.val; omega)

/-- A column spread over a block. -/
theorem spread_col {α : Type} (v : S512x1.Idx → α) (p : Fin 512) (k : Fin 1024) :
    broadcastTo S512x1024 v broadcasts_S512x1_S512x1024 (ix2 p k) = v (ix2 p (0 : Fin 1)) :=
  broadcastTo_apply _ _ _ _ fun a => match a with
    | ⟨0, _⟩ => rfl
    | ⟨1, _⟩ => rfl

/-- A row spread over a block. -/
theorem spread_row {α : Type} (v : S1x1024.Idx → α) (p : Fin 512) (k : Fin 1024) :
    broadcastTo S512x1024 v broadcasts_S1x1024_S512x1024 (ix2 p k) = v (ix2 (0 : Fin 1) k) :=
  broadcastTo_apply _ _ _ _ fun a => match a with
    | ⟨0, _⟩ => rfl
    | ⟨1, _⟩ => rfl

theorem lift_row (p : Fin 512) (k : Fin 1024) : (reduces_S512x1024_S512).lift (ix1 p) k = ix2 p k := by
  funext a; apply Fin.ext; refine (Shape.Reduces.lift_val _ _ _ _).trans ?_
  match a with
  | ⟨0, _⟩ => simp [Shape.Reduces.liftVal]
  | ⟨1, _⟩ => simp [Shape.Reduces.liftVal]

theorem lift_lane (p : Fin 512) (l : Fin 64) : (reduces_S512x64_S512).lift (ix1 p) l = ix2 p l := by
  funext a; apply Fin.ext; refine (Shape.Reduces.lift_val _ _ _ _).trans ?_
  match a with
  | ⟨0, _⟩ => simp [Shape.Reduces.liftVal]
  | ⟨1, _⟩ => simp [Shape.Reduces.liftVal]

theorem lift_code (k : Fin 1024) (l : Fin 64) : (reduces_S64x1024_S1024).lift (ix1 k) l = ix2 l k := by
  funext a; apply Fin.ext; refine (Shape.Reduces.lift_val _ _ _ _).trans ?_
  match a with
  | ⟨0, _⟩ => simp [Shape.Reduces.liftVal]
  | ⟨1, _⟩ => simp [Shape.Reduces.liftVal]

/-- The block's table of squared distances, as the region computes it. -/
def table (X : FVec Ideal S512x64 .f32) (C : FVec Ideal S64x1024 .f32) : FVec Ideal S512x1024 .f32 :=
  addf
    (subf
      (broadcastTo S512x1024 (shapeCast S512x1 (multiReduction .add [1] S512 (mulf X X) 0x00000000#32 reduces_S512x64_S512 (.inl rfl) rfl)
        shapeCasts_S512_S512x1) broadcasts_S512x1_S512x1024)
      (mulf (broadcast S512x1024 (Scalar.ofBits .f32 0x40000000#32))
        (matmul dot_S512x64_S64x1024_S512x1024_1_0_0_1_n_n none X C (constant S512x1024 .f32 0x00000000#32))))
    (broadcastTo S512x1024 (shapeCast S1x1024 (multiReduction .add [0] S1024 (mulf C C) 0x00000000#32 reduces_S64x1024_S1024 (.inl rfl) rfl)
      shapeCasts_S1024_S1x1024) broadcasts_S1x1024_S512x1024)

theorem table_apply (X : FVec Ideal S512x64 .f32) (C : FVec Ideal S64x1024 .f32) (p : Fin 512) (k : Fin 1024) :
    table X C (ix2 p k) = sqd (fun l => X (ix2 p l)) (fun l => C (ix2 l k)) := by
  have hz : multiReduction .add [1] S512 (mulf X X) 0x00000000#32 reduces_S512x64_S512 (.inl rfl) rfl (ix1 p)
      = ∑ l : Fin 64, X (ix2 p l) * X (ix2 p l) := by
    refine (Ideal.multiReduction_add_single _ _ _ _ _ _).trans (Finset.sum_congr rfl fun l _ => ?_)
    exact (congrArg (mulf X X) (lift_lane p l)).trans rfl
  have hc : multiReduction .add [0] S1024 (mulf C C) 0x00000000#32 reduces_S64x1024_S1024 (.inl rfl) rfl (ix1 k)
      = ∑ l : Fin 64, C (ix2 l k) * C (ix2 l k) := by
    refine (Ideal.multiReduction_add_single _ _ _ _ _ _).trans (Finset.sum_congr rfl fun l _ => ?_)
    exact (congrArg (mulf C C) (lift_code k l)).trans rfl
  have hm : matmul dot_S512x64_S64x1024_S512x1024_1_0_0_1_n_n none X C (constant S512x1024 .f32 0x00000000#32) (ix2 p k)
      = ∑ l : Fin 64, X (ix2 p l) * C (ix2 l k) := by
    refine (Ideal.matmul_constant_zero_apply _ _ _ _ _).trans ?_
    rw [← Equiv.sum_comp (contrEquiv1 dot_S512x64_S64x1024_S512x1024_1_0_0_1_n_n 64 rfl rfl).symm]
    refine Finset.sum_congr rfl fun l _ => ?_
    refine congrArg₂ (· * ·) (congrArg X ?_) (congrArg C ?_)
    · funext a; apply Fin.ext
      match a with
      | ⟨0, _⟩ => simp [DotDims.lhsIdx, dot_S512x64_S64x1024_S512x1024_1_0_0_1_n_n]; rfl
      | ⟨1, _⟩ => simp [DotDims.lhsIdx, dot_S512x64_S64x1024_S512x1024_1_0_0_1_n_n]; rfl
    · funext a; apply Fin.ext
      match a with
      | ⟨0, _⟩ => simp [DotDims.rhsIdx, dot_S512x64_S64x1024_S512x1024_1_0_0_1_n_n]; rfl
      | ⟨1, _⟩ => simp [DotDims.rhsIdx, dot_S512x64_S64x1024_S512x1024_1_0_0_1_n_n]; rfl
  unfold table sqd
  rw [addf_apply, subf_apply, mulf_apply, spread_col, spread_row, col_apply, row_apply, hz, hc, hm]
  rfl

/-- The block's least distance of each row. -/
def least (D : FVec Ideal S512x1024 .f32) : FVec Ideal S512 .f32 :=
  multiReduction .minimumf [1] S512 D 0x7F800000#32 reduces_S512x1024_S512 (.inl rfl) rfl

theorem least_apply (D : FVec Ideal S512x1024 .f32) (p : Fin 512) :
    least D (ix1 p) = D (ix2 p (Least.first fun k => D (ix2 p k))) := by
  unfold least
  refine (multiReduction_minimumf_eq_fold D _ _ _ _ _).trans ?_
  refine ((reduces_S512x1024_S512).fold_filter_drop_single _ _ D (ix1 p)).trans ?_
  have hx : (D ∘ (reduces_S512x1024_S512).lift (ix1 p)) = fun k : Fin 1024 => D (ix2 p k) := by
    funext k; exact congrArg D (lift_row p k)
  rw [hx]
  refine Eq.trans ?_ (Least.fold_min fun k => D (ix2 p k))
  show Finset.univ.fold min (Ideal.ofBits .f32 0x7F800000#32) _ = _
  rw [ofBits_top]; rfl

/-- The block's first code at each row's least distance. -/
def firsts (D : FVec Ideal S512x1024 .f32) : IVec S512 32 :=
  multiReductionI .minsi [1] S512
    (select (cmpf .oeq D (broadcastTo S512x1024 (shapeCast S512x1 (least D) shapeCasts_S512_S512x1) broadcasts_S512x1_S512x1024))
      (iota .tc S512x1024 32 [1] iota_S512x1024_d1_w32) (broadcast S512x1024 1024#32))
    2147483647#32 reduces_S512x1024_S512 rfl

theorem firsts_apply (D : FVec Ideal S512x1024 .f32) (p : Fin 512) :
    firsts D (ix1 p) = Least.word (Least.first fun k => D (ix2 p k)) := by
  unfold firsts
  refine (multiReductionI_eq_fold _ _ _ _ _ _).trans ?_
  refine ((reduces_S512x1024_S512).fold_filter_drop_single _ _ _ (ix1 p)).trans ?_
  refine Eq.trans ?_ (Least.fold_minsi fun k => D (ix2 p k))
  refine congrArg (Finset.univ.fold IntOp.minsi 2147483647#32) (funext fun k : Fin 1024 => ?_)
  refine (congrArg _ (lift_row p k)).trans ?_
  rw [select_apply, cmpf_apply, spread_col, col_apply, least_apply, iota_single_apply]
  show Scalar.select (BitVec.ofBool (decide (D (ix2 p k) = _))) (BitVec.ofNat 32 k.val) 1024#32 = _
  by_cases h : D (ix2 p k) = D (ix2 p (Least.first fun k => D (ix2 p k)))
  · rw [if_pos h, decide_eq_true h]; rfl
  · rw [if_neg h, decide_eq_false h]; rfl

/-- The stored block is the table's first least codes. -/
theorem pay_eq (X : FVec Ideal S512x64 .f32) (C : FVec Ideal S64x1024 .f32) :
    k0_pay1 (F := Ideal) X C
      = shapeCast S1x512x1 (shapeCast S512x1 (firsts (table X C)) shapeCasts_S512_S512x1) shapeCasts_S512x1_S1x512x1 := by
  unfold k0_pay1
  simp only [shapeCast_self]
  rfl

theorem pay_apply (X : FVec Ideal S512x64 .f32) (C : FVec Ideal S64x1024 .f32) (p : Fin 512) :
    k0_pay1 (F := Ideal) X C (ix3 (0 : Fin 1) p (0 : Fin 1))
      = Least.word (Least.first fun k => sqd (fun l => X (ix2 p l)) (fun l => C (ix2 l k))) := by
  rw [pay_eq]
  refine (shapeCast_apply _ _ _ (ix2 p (0 : Fin 1)) (by
    rw [Shape.rowMajor_val_two, Shape.rowMajor_val_three]; show p.val * 1 + 0 = (0 * 512 + p.val) * 1 + 0; omega)).trans ?_
  rw [col_apply, firsts_apply]
  simp only [table_apply]

end Cert.Proof.Ki
-- ==== Proof.Kerval.lean ====
/-
  The kernel's row numbers and result on the extended reals, read at an index.
-/
module

public import proofs.«01_k».proof.Proof.Block
public import proofs.«01_k».proof.Proof.Values
public import Idealize.ShloMosaic.Lib.KernelVsHost

@[expose] public section

noncomputable section

namespace Cert.Proof.Ki

open Cert.KernelIdeal Cert.KernelIdeal.Gen
open Idealize.ShloMosaic Idealize.ShloMosaic.ValueIdx
open scoped BigOperators

theorem transposed_apply (c : FVec Ideal S1024x64 .f32) (l : Fin 64) (k : Fin 1024) :
    transposed (F := Ideal) c (ix2 l k) = c (ix2 k l) :=
  transpose_apply _ _ _ _ _ fun b => match b with
    | ⟨0, _⟩ => rfl
    | ⟨1, _⟩ => rfl

/-- The first code at a row's least squared distance. -/
def code (z : FVec Ideal S32768x64 .f32) (c : FVec Ideal S1024x64 .f32) (r : Fin 32768) : Fin 1024 :=
  Least.first fun k => sqd (fun l => z (ix2 r l)) (fun l => c (ix2 k l))

theorem opos_eq (p : Fin 512) : opos p = ix3 (0 : Fin 1) p (0 : Fin 1) := by
  funext a
  match a with
  | ⟨0, _⟩ => rfl
  | ⟨1, _⟩ => rfl
  | ⟨2, _⟩ => rfl

theorem nearest_apply (z : FVec Ideal S32768x64 .f32) (c : FVec Ideal S1024x64 .f32) (t : Fin 64) (p : Fin 512) (r : Fin 32768)
    (hr : r.val = 512 * t.val + p.val) :
    nearest (F := Ideal) z (transposed c) (ix3 t p (0 : Fin 1)) = Least.word (code z c r) := by
  unfold nearest
  show k0_pay1 (F := Ideal) (zblk z t) (transposed c) (opos p) = _
  rw [opos_eq, pay_apply]
  have hz : ∀ l : Fin 64, zblk z t (ix2 p l) = z (ix2 r l) := fun l => congrArg z (funext fun a => by
    match a with
    | ⟨0, _⟩ => exact Fin.ext hr.symm
    | ⟨1, _⟩ => rfl)
  simp only [hz, transposed_apply]
  rfl

/-- The row numbers are the codes. -/
theorem rows_apply (z : FVec Ideal S32768x64 .f32) (c : FVec Ideal S1024x64 .f32) (r : Fin 32768) :
    rows (F := Ideal) z c (ipos r) = Least.word (code z c r) := by
  have ht : r.val / 512 < 64 := by omega
  have hp : r.val % 512 < 512 := by omega
  refine (shapeCast_apply _ shapeCasts_S64x512x1_S256x128 (ipos r)
    (ix3 (⟨r.val / 512, ht⟩ : Fin 64) (⟨r.val % 512, hp⟩ : Fin 512) (0 : Fin 1)) ?_).trans
    (nearest_apply z c ⟨r.val / 512, ht⟩ ⟨r.val % 512, hp⟩ r ?_)
  · rw [Shape.rowMajor_val_three, Shape.rowMajor_val_two]
    show (r.val / 512 * 512 + r.val % 512) * 1 + 0 = r.val / 128 * 128 + r.val % 128
    omega
  · show r.val = 512 * (r.val / 512) + r.val % 512
    omega

/-- Every row number is a row of the codebook. -/
theorem rows_lt (z : FVec Ideal S32768x64 .f32) (c : FVec Ideal S1024x64 .f32) (j : S256x128.Idx) :
    (rows (F := Ideal) z c j).toNat < 1024 := by
  have h0 : (j 0).val < 256 := (j 0).isLt
  have h1 : (j 1).val < 128 := (j 1).isLt
  have hj : ipos ⟨128 * (j 0).val + (j 1).val, by omega⟩ = j := by
    funext a
    match a with
    | ⟨0, _⟩ => exact Fin.ext (by show (128 * (j 0).val + (j 1).val) / 128 = (j 0).val; omega)
    | ⟨1, _⟩ => exact Fin.ext (by show (128 * (j 0).val + (j 1).val) % 128 = (j 1).val; omega)
  rw [← hj, rows_apply, Least.word_toNat]
  exact Fin.isLt _

/-- The padded codebook's first 64 lanes are the codebook. -/
theorem padded_apply (c : FVec Ideal S1024x64 .f32) (x : S1024x128.Idx) (n : Fin 1024) (l : Fin 64) (h0 : (x 0).val = n.val)
    (h1 : (x 1).val = l.val) : padded (F := Ideal) c x = c (ix2 n l) :=
  pad_apply_of_inside _ _ _ _ _ _ _ _ _ fun a => match a with
    | ⟨0, _⟩ => h0.trans (by show n.val = 0 + n.val * 1; omega)
    | ⟨1, _⟩ => h1.trans (by show l.val = 0 + l.val * 1; omega)

/-- The result's row is the codebook's row at its code. -/
theorem result_apply (z : FVec Ideal S32768x64 .f32) (c : FVec Ideal S1024x64 .f32) (r : Fin 32768) (l : Fin 64) :
    result (F := Ideal) z c (ix2 r l) = c (ix2 (code z c r) l) := by
  unfold result
  have hl : l.val < 128 := by omega
  refine (extractStridedSlice_apply _ _ _ _ (ix2 r (⟨l.val, hl⟩ : Fin 128)) ?_).trans ?_
  · intro a
    match a with
    | ⟨0, _⟩ => show r.val = 0 + r.val; omega
    | ⟨1, _⟩ => show l.val = 0 + l.val; omega
  · unfold gathered
    refine padded_apply c _ _ _ ?_ rfl
    show min (rows (F := Ideal) z c (ipos r)).toNat 1023 = (code z c r).val
    rw [rows_apply, Least.word_toNat]
    have := (code z c r).isLt
    omega

end Cert.Proof.Ki
-- ==== Proof.Fold.lean ====
/-
  A reduction of pairs along one axis, on the extended reals, as a fold over that axis's coordinates.
-/
module

public import proofs.«01_k».proof.Proof.Dist

@[expose] public section

noncomputable section

namespace Cert.Proof

open Idealize.ShloMosaic

/-- Along one axis the reduction of (value, position) pairs is the fold, from the initial pair, over the axis's coordinates. -/
theorem argReduce_single {s t u : Shape} {a : Fin s.rank} {β : Type} (f f' : Ideal .f32 × β → Ideal .f32 × β → Ideal .f32 × β)
    (hf : f = f') [Std.Commutative f'] [Std.Associative f'] (x : FVec Ideal s .f32) (y : s.Idx → β) (ix : u.Idx → Ideal .f32) (iy : u.Idx → β)
    (h' : s.ReducesTo [a] t) (h : s.Reduces [a] t) (hu : 0 < u.numel) (j : t.Idx) (x0 : Ideal .f32) (y0 : β)
    (hx : ix (Shape.Idx.first hu) = x0) (hy : iy (Shape.Idx.first hu) = y0)
    (g : Fin (s.size a) → Ideal .f32 × β) (hg : ∀ k, (x (h.lift j k), y (h.lift j k)) = g k) :
    Host.argReduce f x y ix iy h' hu j = (Finset.univ : Finset (Fin (s.size a))).fold f' (x0, y0) g := by
  classical
  subst hf
  rw [Ideal.argReduce_eq_reduce2]
  unfold Host.reduce2
  rw [hx, hy]
  refine (Shape.foldl_filter_rowMajor_eq_fold h'.drop f (x0, y0) (fun i => (x i, y i)) j).trans ?_
  have hd : h'.drop = h.drop := Shape.ReducesTo.drop_eq_drop h' h
  rw [hd]
  refine (h.fold_filter_drop_single f (x0, y0) (fun i => (x i, y i)) j).trans ?_
  exact congrArg (Finset.univ.fold f (x0, y0)) (funext hg)

end Cert.Proof
-- ==== Proof.Refval.lean ====
/-
  What the reference computes on the extended reals, read at an index: the table of squared distances, the first least
  code of a row, and the codebook's row there.
-/
module

public import proofs.«01_k».proof.Proof.Refrun
public import proofs.«01_k».proof.Proof.Fold

@[expose] public section

noncomputable section

namespace Cert.Proof.Rf

open Cert.ReferenceIdeal Cert.ReferenceIdeal.Gen
open Idealize.ShloMosaic Idealize.ShloMosaic.ValueIdx
open scoped BigOperators

/-! ## The table -/

theorem red_z : S32768x64.Reduces [1] S32768 := by decide +kernel
theorem red_c : S1024x64.Reduces [1] S1024 := by decide +kernel
theorem red_d : S32768x1024.Reduces [1] S32768 := by decide +kernel

theorem lift_z (r : Fin 32768) (l : Fin 64) : red_z.lift (ix1 r) l = ix2 r l := by
  funext a; apply Fin.ext; refine (Shape.Reduces.lift_val _ _ _ _).trans ?_
  match a with
  | ⟨0, _⟩ => simp [Shape.Reduces.liftVal]
  | ⟨1, _⟩ => simp [Shape.Reduces.liftVal]

theorem lift_c (k : Fin 1024) (l : Fin 64) : red_c.lift (ix1 k) l = ix2 k l := by
  funext a; apply Fin.ext; refine (Shape.Reduces.lift_val _ _ _ _).trans ?_
  match a with
  | ⟨0, _⟩ => simp [Shape.Reduces.liftVal]
  | ⟨1, _⟩ => simp [Shape.Reduces.liftVal]

theorem lift_d (r : Fin 32768) (k : Fin 1024) : red_d.lift (ix1 r) k = ix2 r k := by
  funext a; apply Fin.ext; refine (Shape.Reduces.lift_val _ _ _ _).trans ?_
  match a with
  | ⟨0, _⟩ => simp [Shape.Reduces.liftVal]
  | ⟨1, _⟩ => simp [Shape.Reduces.liftVal]

theorem norm_z (z : FVec Ideal S32768x64 .f32) (r : Fin 32768) :
    Host.reduceAdd (mulf z z) (constant S_ .f32 0x00000000#32) reducesTo_S32768x64_S32768_d1 h_S_ (ix1 r)
      = ∑ l : Fin 64, z (ix2 r l) * z (ix2 r l) := by
  refine (Ideal.hostReduceAdd_single reducesTo_S32768x64_S32768_d1 red_z (mulf z z) (Ideal.ofBits .f32 0x00000000#32) (ix1 r)).trans ?_
  rw [Ideal.ofBits_zero_f32, zero_add]
  exact Finset.sum_congr rfl fun l _ => (congrArg (mulf z z) (lift_z r l)).trans rfl

theorem norm_c (c : FVec Ideal S1024x64 .f32) (k : Fin 1024) :
    Host.reduceAdd (mulf c c) (constant S_ .f32 0x00000000#32) reducesTo_S1024x64_S1024_d1 h_S_ (ix1 k)
      = ∑ l : Fin 64, c (ix2 k l) * c (ix2 k l) := by
  refine (Ideal.hostReduceAdd_single reducesTo_S1024x64_S1024_d1 red_c (mulf c c) (Ideal.ofBits .f32 0x00000000#32) (ix1 k)).trans ?_
  rw [Ideal.ofBits_zero_f32, zero_add]
  exact Finset.sum_congr rfl fun l _ => (congrArg (mulf c c) (lift_c k l)).trans rfl

theorem product (z : FVec Ideal S32768x64 .f32) (c : FVec Ideal S1024x64 .f32) (r : Fin 32768) (k : Fin 1024) :
    Host.dotGeneral dot_S32768x64_S64x1024_S32768x1024_1_0_0_1_n_n none z
        (transpose S64x1024 [1, 0] c transposes_S1024x64_S64x1024_1_0) (ix2 r k)
      = ∑ l : Fin 64, z (ix2 r l) * c (ix2 k l) := by
  refine (Ideal.dotGeneral_apply _ _ _ _ _ _).trans ?_
  rw [← Equiv.sum_comp (contrEquiv1 dot_S32768x64_S64x1024_S32768x1024_1_0_0_1_n_n 64 rfl rfl).symm]
  refine Finset.sum_congr rfl fun l _ => ?_
  refine congrArg₂ (· * ·) (congrArg z ?_) (transpose_apply _ _ _ _ _ ?_)
  · funext a; apply Fin.ext
    match a with
    | ⟨0, _⟩ => simp [DotDims.lhsIdx, dot_S32768x64_S64x1024_S32768x1024_1_0_0_1_n_n]; rfl
    | ⟨1, _⟩ => simp [DotDims.lhsIdx, dot_S32768x64_S64x1024_S32768x1024_1_0_0_1_n_n]; rfl
  · intro b
    match b with
    | ⟨0, _⟩ => simp [DotDims.rhsIdx, dot_S32768x64_S64x1024_S32768x1024_1_0_0_1_n_n]; rfl
    | ⟨1, _⟩ => simp [DotDims.rhsIdx, dot_S32768x64_S64x1024_S32768x1024_1_0_0_1_n_n]; rfl

theorem spread_col (v : FVec Ideal S32768 .f32) (r : Fin 32768) (k : Fin 1024) :
    broadcastInDim S32768x1024 ![0, 1] bcast_S32768x1_S32768x1024_0_1
      (broadcastInDim S32768x1 ![0] bcast_S32768_S32768x1_0 v) (ix2 r k) = v (ix1 r) :=
  (broadcastInDim_apply _ _ _ _ (ix2 r (0 : Fin 1)) fun a => match a with
    | ⟨0, _⟩ => rfl
    | ⟨1, _⟩ => rfl).trans
  (broadcastInDim_apply _ _ _ _ (ix1 r) fun a => match a with
    | ⟨0, _⟩ => rfl)

theorem spread_row (v : FVec Ideal S1024 .f32) (r : Fin 32768) (k : Fin 1024) :
    broadcastInDim S32768x1024 ![0, 1] bcast_S1x1024_S32768x1024_0_1
      (broadcastInDim S1x1024 ![1] bcast_S1024_S1x1024_1 v) (ix2 r k) = v (ix1 k) :=
  (broadcastInDim_apply _ _ _ _ (ix2 (0 : Fin 1) k) fun a => match a with
    | ⟨0, _⟩ => rfl
    | ⟨1, _⟩ => rfl).trans
  (broadcastInDim_apply _ _ _ _ (ix1 k) fun a => match a with
    | ⟨0, _⟩ => rfl)

theorem distances_apply (z : FVec Ideal S32768x64 .f32) (c : FVec Ideal S1024x64 .f32) (r : Fin 32768) (k : Fin 1024) :
    distances z c (ix2 r k) = sqd (fun l => z (ix2 r l)) (fun l => c (ix2 k l)) := by
  unfold distances sqd
  rw [addf_apply, subf_apply, mulf_apply, spread_col, spread_row, norm_z, norm_c, product]
  rfl

/-! ## The first least code -/

/-- The reference's choice between two pairs is the lesser of them. -/
theorem reducer_eq : reducer_argmin_f32_i32 (F := Ideal) = Least.lesser := by
  funext a b
  have hor : ∀ p q : Bool, IntOp.ori (BitVec.ofBool p) (BitVec.ofBool q) = BitVec.ofBool (p || q) := by decide
  have hand : ∀ p q : Bool, IntOp.andi (BitVec.ofBool p) (BitVec.ofBool q) = BitVec.ofBool (p && q) := by decide
  have hsel : ∀ (α : Type) (p : Bool) (v w : α), Scalar.select (BitVec.ofBool p) v w = if p then v else w := by
    intro α p v w; cases p <;> rfl
  show (Scalar.select (IntOp.ori (BitVec.ofBool (decide (a.1 < b.1))) (BitVec.ofBool (decide (a.1 ≠ a.1)))) a.1 b.1,
    Scalar.select (IntOp.ori (IntOp.ori (BitVec.ofBool (decide (a.1 < b.1))) (BitVec.ofBool (decide (a.1 ≠ a.1))))
      (IntOp.andi (BitVec.ofBool (decide (a.1 = b.1))) (BitVec.ofBool (a.2.slt b.2)))) a.2 b.2) = _
  rw [hor, hand, hor, hsel, hsel]
  unfold Least.lesser
  simp [BitVec.slt]

theorem pick_eq (d : FVec Ideal S32768x1024 .f32) :
    pick d = fun j => (Host.argReduce (reducer_argmin_f32_i32 (F := Ideal)) d (iotaInDim S32768x1024 32 1)
      (constant S_ .f32 0x7F800000#32) (constantI S_ 32 0#32) reducesTo_S32768x1024_S32768_d1 h_S_ j).2 := by
  unfold pick; exact Eq.refl _

theorem pick_apply (d : FVec Ideal S32768x1024 .f32) (r : Fin 32768) :
    pick d (ix1 r) = Least.word (Least.first fun k => d (ix2 r k)) := by
  refine (congrFun (pick_eq d) (ix1 r)).trans ((congrArg Prod.snd (argReduce_single (reducer_argmin_f32_i32 (F := Ideal))
    Least.lesser reducer_eq d (iotaInDim S32768x1024 32 1)
    (constant S_ .f32 0x7F800000#32) (constantI S_ 32 0#32) reducesTo_S32768x1024_S32768_d1 red_d h_S_ (ix1 r)
    (⊤ : EReal) 0#32 ofBits_top rfl (fun k : Fin 1024 => (d (ix2 r k), Least.word k)) fun k => ?_)).trans ?_)
  · exact Prod.ext (congrArg d (lift_d r k)) ((congrArg (iotaInDim S32768x1024 32 1) (lift_d r k)).trans rfl)
  · exact congrArg Prod.snd (Least.fold_lesser fun k => d (ix2 r k))

end Cert.Proof.Rf
-- ==== Proof.Taken.lean ====
/-
  The reference's take read at an index: at a position within the codebook it is the codebook's row.
-/
module

public import proofs.«01_k».proof.Proof.Refval

@[expose] public section

noncomputable section

namespace Cert.Proof.Rf

open Cert.ReferenceIdeal Cert.ReferenceIdeal.Gen
open Idealize.ShloMosaic Idealize.ShloMosaic.ValueIdx
open scoped BigOperators

theorem word_not_neg : ∀ n : Fin 1024, IntOp.cmpi .slt (Least.word n) 0#32 = 0#1 := by decide +kernel

theorem word_inside : ∀ n : Fin 1024,
    IntOp.andi (IntOp.cmpi .sge (Least.word n) 0#32) (IntOp.cmpi .sle (Least.word n) 1023#32) = 1#1 := by decide +kernel

theorem word_start (n : Fin 1024) : min (Least.word n).toInt.toNat 1023 = n.val := by
  rw [Least.word_toInt]; have := n.isLt; omega

/-- A position within the codebook is kept. -/
theorem wrapped_apply (i : IVec S32768 32) (r : Fin 32768) (n : Fin 1024) (h : i (ix1 r) = Least.word n) :
    wrapped i (ix1 r) = Least.word n := by
  unfold wrapped
  refine (select_apply _ _ _ _).trans ?_
  have e : cmpi .slt i (broadcastInDim S32768 ![] bcast_S_S32768 (constantI S_ 32 0#32)) (ix1 r) = 0#1 :=
    (congrArg (fun w => IntOp.cmpi .slt w 0#32) h).trans (word_not_neg n)
  rw [e, h]
  exact select_zero _ _

/-- The positions as a column. -/
theorem column_apply (w : IVec S32768 32) (r : Fin 32768) :
    broadcastInDim S32768x1 ![0] bcast_S32768_S32768x1_0 w (ix2 r (0 : Fin 1)) = w (ix1 r) :=
  broadcastInDim_apply _ _ _ _ (ix1 r) fun a => match a with
    | ⟨0, _⟩ => rfl

theorem red_one : S32768x1.Reduces [1] S32768 := by decide +kernel

theorem lift_one (r : Fin 32768) (k : Fin 1) : red_one.lift (ix1 r) k = ix2 r (0 : Fin 1) := by
  obtain rfl : k = 0 := Subsingleton.elim _ _
  funext a; apply Fin.ext; refine (Shape.Reduces.lift_val _ _ _ _).trans ?_
  match a with
  | ⟨0, _⟩ => simp [Shape.Reduces.liftVal]
  | ⟨1, _⟩ => simp [Shape.Reduces.liftVal]

/-- A position within the codebook passes the test. -/
theorem inside_apply (w : IVec S32768x1 32) (r : Fin 32768) (n : Fin 1024) (h : w (ix2 r (0 : Fin 1)) = Least.word n) :
    inside w (ix1 r) = 1#1 := by
  unfold inside
  refine (Host.reduce_eq_fold _ _ _ _ _ _).trans ?_
  rw [Shape.ReducesTo.drop_eq_drop reducesTo_S32768x1_S32768_d1 red_one]
  refine (red_one.fold_filter_drop_single _ _ _ (ix1 r)).trans ?_
  have hx : ∀ k : Fin 1, (andi (cmpi .sge w (broadcastInDim S32768x1 ![] bcast_S_S32768x1 (constantI S_ 32 0#32)))
      (cmpi .sle w (broadcastInDim S32768x1 ![0, 1] bcast_S1x1_S32768x1_0_1
        (broadcastInDim S1x1 ![1] bcast_S1_S1x1_1 (constantI S1 32 1023#32))))) (red_one.lift (ix1 r) k) = 1#1 := fun k => by
    refine (congrArg _ (lift_one r k)).trans ?_
    show IntOp.andi (IntOp.cmpi .sge (w (ix2 r (0 : Fin 1))) 0#32) (IntOp.cmpi .sle (w (ix2 r (0 : Fin 1))) 1023#32) = 1#1
    rw [h]; exact word_inside n
  refine (congrArg (Finset.univ.fold IntOp.andi 1#1) (funext hx)).trans ?_
  show (Finset.univ : Finset (Fin 1)).fold IntOp.andi 1#1 (fun _ => 1#1) = 1#1
  decide +kernel

/-- The gather's row at a position within the codebook. -/
theorem gather_apply (c : FVec Ideal S1024x64 .f32) (w : IVec S32768x1 32) (r : Fin 32768) (l : Fin 64) (n : Fin 1024)
    (h : w (ix2 r (0 : Fin 1)) = Least.word n) :
    Host.gather gather_S1024x64_S32768x1_S32768x64_1_0_n_n_0_1_164 c w (ix2 r l) = c (ix2 n l) := by
  unfold Host.gather
  refine congrArg c (funext fun a => Fin.ext ?_)
  show gather_S1024x64_S32768x1_S32768x64_1_0_n_n_0_1_164.start (ix2 r l) w a
      + gather_S1024x64_S32768x1_S32768x64_1_0_n_n_0_1_164.batchCoord (ix2 r l) a
      + gather_S1024x64_S32768x1_S32768x64_1_0_n_n_0_1_164.offCoord (ix2 r l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x64_S32768x1_S32768x64_1_0_n_n_0_1_164.startIndexMap from List.mem_singleton.mpr rfl)]
    have hsi : gather_S1024x64_S32768x1_S32768x64_1_0_n_n_0_1_164.siIdx (ix2 r l)
        ⟨List.idxOf (0 : Fin 2) gather_S1024x64_S32768x1_S32768x64_1_0_n_n_0_1_164.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi, h]
    exact word_start n
  · unfold GatherDims.start
    rw [dif_neg (show (1 : Fin 2) ∉ gather_S1024x64_S32768x1_S32768x64_1_0_n_n_0_1_164.startIndexMap from fun h => by
      have := List.mem_singleton.mp h; exact absurd this (by decide))]
    simp [GatherDims.offCoord, gather_S1024x64_S32768x1_S32768x64_1_0_n_n_0_1_164]
    rfl

theorem take_apply (c : FVec Ideal S1024x64 .f32) (i : IVec S32768 32) (r : Fin 32768) (l : Fin 64) (n : Fin 1024)
    (h : i (ix1 r) = Least.word n) : take c i (ix2 r l) = c (ix2 n l) := by
  have hw : broadcastInDim S32768x1 ![0] bcast_S32768_S32768x1_0 (wrapped i) (ix2 r (0 : Fin 1)) = Least.word n :=
    (column_apply _ r).trans (wrapped_apply i r n h)
  have hb : broadcastInDim S32768x64 ![0] bcast_S32768_S32768x64_0
      (inside (broadcastInDim S32768x1 ![0] bcast_S32768_S32768x1_0 (wrapped i))) (ix2 r l) = 1#1 :=
    (broadcastInDim_apply _ _ _ _ (ix1 r) fun a => match a with
      | ⟨0, _⟩ => rfl).trans (inside_apply _ r n hw)
  unfold take
  refine (select_apply _ _ _ _).trans ?_
  rw [hb, gather_apply c _ r l n hw]
  exact select_one _ _

end Cert.Proof.Rf
-- ==== Proof.Equation.lean ====
/-
  The equation: on the extended reals the kernel's result is the reference's.
-/
module

public import proofs.«01_k».proof.Proof.Kerval
public import proofs.«01_k».proof.Proof.Taken

@[expose] public section

noncomputable section

namespace Cert.Proof

open Idealize.ShloMosaic Idealize.ShloMosaic.ValueIdx

/-- Kernel and reference give the codebook's row at the first code of least squared distance. -/
theorem result_eq (z : FVec Ideal Cert.KernelIdeal.S32768x64 .f32) (c : FVec Ideal Cert.KernelIdeal.S1024x64 .f32) :
    Ki.result (F := Ideal) z c = Rf.take (F := Ideal) c (Rf.pick (Rf.distances z c)) := by
  funext j
  obtain ⟨r, l, rfl⟩ : ∃ (r : Fin 32768) (l : Fin 64), j = ix2 r l := ⟨j 0, j 1, eq_ix2 j⟩
  refine (Ki.result_apply z c r l).trans (Rf.take_apply c _ r l _ ?_).symm
  refine (Rf.pick_apply _ r).trans (congrArg Least.word ?_)
  exact congrArg Least.first (funext fun k => Rf.distances_apply z c r k)

end Cert.Proof
-- ==== Proof.GaSetup.lean ====
/-
  The kernel's program as the SparseCore launch theorem sees it, and the set-up every later module shares: the
  configuration, the ghost state, the buffers of @main by name, the pieces of them a vector subcore's task is handed,
  and the values they hold. Everything is stated for any float instance.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pipeline.Regions
public import proofs.«01_k».proof.Proof.Gen.Gather
public import proofs.«01_k».proof.Proof.Gen.Gather.Skeleton

@[expose] public section

noncomputable section

namespace Cert.Proof.Ga

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the TensorCore pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers -/

abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

local notation "tV" => (Memref.whole Cert.Gather.main_v0_scv : Memref Cert.Gather.sig Kind.scVector Space.hbm Cert.Gather.S1024x128 EltTy.f32)
local notation "iV" => (Memref.whole Cert.Gather.main_v1_scv : Memref Cert.Gather.sig Kind.scVector Space.hbm Cert.Gather.S256x128 EltTy.i32)
local notation "oV" => (Memref.whole Cert.Gather.main_v2_scv : Memref Cert.Gather.sig Kind.scVector Space.hbm Cert.Gather.S32768x128 EltTy.f32)
local notation "lV" => (Memref.whole Cert.Gather.cc0_scratch0 : Memref Cert.Gather.sig Kind.scVector Space.vmem Cert.Gather.S8x128 EltTy.i32)
local notation "gV" => (Memref.whole Cert.Gather.cc0_scratch1 : Memref Cert.Gather.sig Kind.scVector Space.vmem Cert.Gather.S2x128x128 EltTy.f32)

/-- The number of the task on SparseCore `c`, subcore `s`. -/
abbrev wid (p : Fin 2 × Fin 16) : Fin 32 := ⟨2 * p.2.val + p.1.val, by omega⟩
/-- The number of that task's `k`-th block of 128 output rows. -/
abbrev bid (p : (Fin 2 × Fin 16) × Fin 8) : Fin 256 := ⟨8 * (wid p.1).val + p.2.val, by have := (wid p.1).isLt; omega⟩

theorem idiv : 32 ∣ S256x128.size 0 := ⟨8, rfl⟩
theorem odiv : 256 ∣ S32768x128.size 0 := ⟨128, rfl⟩
/-- Task `w`'s eight rows of row numbers. -/
abbrev irow (w : Fin 32) : Rect S256x128 := Rect.part (s := S256x128) (a₀ := 0) idiv w
/-- The `b`-th block of 128 output rows. -/
abbrev oblk (b : Fin 256) : Rect S32768x128 := Rect.part (s := S32768x128) (a₀ := 0) odiv b
abbrev iRowSet (w : Fin 32) : Finset S256x128.Idx := ((iV).view.slice (irow w)).set
abbrev oBlkSet (b : Fin 256) : Finset S32768x128.Idx := ((oV).view.slice (oblk b)).set

/-! ## What the call leaves in its output -/

/-- Position `r` of the row numbers, laid out 256 by 128. -/
def ipos (r : Fin 32768) : S256x128.Idx := fun
  | 0 => (⟨r.val / 128, by omega⟩ : Fin 256)
  | 1 => (⟨r.val % 128, by omega⟩ : Fin 128)
/-- The table's element at row `n` (the last row when there is none) and lane `c`. -/
def tpos (n : ℕ) (c : Fin 128) : S1024x128.Idx := fun
  | 0 => (⟨min n 1023, by omega⟩ : Fin 1024)
  | 1 => c
/-- Output row `r` is the table's row named by the `r`-th row number. -/
def gathered {α : Type} (T : S1024x128.Idx → α) (I : S256x128.Idx → BitVec 32) : S32768x128.Idx → α :=
  fun x => T (tpos (I (ipos (x 0))).toNat (x 1))

end Cert.Proof.Ga

end
-- ==== Proof.GaTile.lean ====
/-
  One vector subcore's task, at a symbolic (SparseCore, subcore) pair: it fetches its eight rows of row numbers, and
  eight times gathers the 128 table rows that one row of them names into one of two staging slots (the next gather
  started before the last one is copied out) and copies the slot to its block of the output.
-/
module

public import proofs.«01_k».proof.Proof.GaSetup

@[expose] public section

noncomputable section

namespace Cert.Proof.Ga

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Gather.main_v0_scv : Memref Cert.Gather.sig Kind.scVector Space.hbm Cert.Gather.S1024x128 EltTy.f32)
local notation "iV" => (Memref.whole Cert.Gather.main_v1_scv : Memref Cert.Gather.sig Kind.scVector Space.hbm Cert.Gather.S256x128 EltTy.i32)
local notation "oV" => (Memref.whole Cert.Gather.main_v2_scv : Memref Cert.Gather.sig Kind.scVector Space.hbm Cert.Gather.S32768x128 EltTy.f32)
local notation "lV" => (Memref.whole Cert.Gather.cc0_scratch0 : Memref Cert.Gather.sig Kind.scVector Space.vmem Cert.Gather.S8x128 EltTy.i32)
local notation "gV" => (Memref.whole Cert.Gather.cc0_scratch1 : Memref Cert.Gather.sig Kind.scVector Space.vmem Cert.Gather.S2x128x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)
omit [FloatOps F] in
theorem bound_zero : grid0.bound 0 = 2 := rfl
omit [FloatOps F] in
theorem bound_one : grid0.bound 1 = 16 := rfl
/-- The task's (SparseCore, subcore) pair. -/
abbrev pL (L : grid0.Coords) : Fin 2 × Fin 16 := (Fin.cast bound_zero (L 0), Fin.cast bound_one (L 1))

/-- The task's rows of row numbers, its eight output blocks, the two staging slots and the table, as the body
    addresses them. -/
abbrev irowK (L : grid0.Coords) : Rect S256x128 := Rect.unit (s := S256x128) (k0_off1 L) S8x128.size (k0_off1_inb L)
abbrev iRowK (L : grid0.Coords) : Memref sig .scVector .hbm S8x128 .i32 := (iV).slice (irowK L) (fun _ => rfl)
abbrev oblkK (L : grid0.Coords) (k : Fin 8) : Rect S32768x128 :=
  Rect.unit (s := S32768x128) (k0_off2 L (BitVec.ofNat 32 (128 * k.val))) S128x128.size (k0_off2_inb L k)
abbrev oBlkK (L : grid0.Coords) (k : Fin 8) : Memref sig .scVector .hbm S128x128 .f32 := (oV).slice (oblkK L k) (fun _ => rfl)
abbrev slot0 : Memref sig .scVector .vmem S128x128 .f32 :=
  ((gV).slice (Rect.unit (s := S2x128x128) ![0, 0, 0] S1x128x128.size inb_S2x128x128_S1x128x128_0_0_0) (fun _ => rfl)).squeeze S128x128 squeezes_S1x128x128_S128x128
abbrev slot1 : Memref sig .scVector .vmem S128x128 .f32 :=
  ((gV).slice (Rect.unit (s := S2x128x128) ![1, 0, 0] S1x128x128.size inb_S2x128x128_S1x128x128_1_0_0) (fun _ => rfl)).squeeze S128x128 squeezes_S1x128x128_S128x128

/-- The ten DMA cells the task names. -/
abbrev csem (k : Nat) (hk : k < 10 := by decide) : DmaSem sig := ⟨k, hk⟩
abbrev dcell (d : Dev nD) (c : Fin τ.nSC) (i : Fin τ.nSub) (k : Fin 10) : GSem nD τ sig := (V d c i, .dma (csem k.val k.isLt))
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0)

/-- What the index fetch lands in the task's list buffer: its rows of the row numbers. -/
abbrev PAY (I : Buf (Elt F) (iLoc d)) : S8x128.Idx → Elt F .i32 := ReadAs.same.apply ((iRowK L).view.read (Elt F) I)

omit [FloatOps F] in
theorem PAY_apply (I : Buf (Elt F) (iLoc d)) (x : S8x128.Idx) : PAY d L I x = I ((iRowK L).view.emb x) :=
  (View.read_apply _ _).trans (cast_eq _ _)

omit [FloatOps F] in
/-- Every row of the fetched list names table rows only. -/
theorem inb_of_lt (I : Buf (Elt F) (iLoc d)) (hI : ∀ j, (I j : BitVec 32).toNat < 1024) (g0 : Buf (Elt F) ((lV).view.loc (VT d L)))
    (pay : S8x128.Idx → Elt F .i32) (hpay : pay = PAY d L I) (row : Fin 2 → Nat)
    (hk : ∀ a, row a + S1x128.size a ≤ S8x128.size a) (hq : (Rect.unit (s := S8x128) row S1x128.size hk).shape.Squeezes S128) :
    ∀ x, (View.read (Elt F) (((lV).slice (Rect.unit (s := S8x128) row S1x128.size hk) (fun _ => rfl)).squeeze S128 hq).view
      ((lV).view.writes (Elt F) g0 [⟨Rect.whole cc0_scratch0.ty.shape, pay⟩]) x).toNat < 1024 := by
  subst hpay; intro x
  have e : View.read (Elt F) (((lV).slice (Rect.unit (s := S8x128) row S1x128.size hk) (fun _ => rfl)).squeeze S128 hq).view
        ((lV).view.writes (Elt F) g0 [⟨Rect.whole cc0_scratch0.ty.shape, PAY d L I⟩]) x
      = View.read (Elt F) (lV).view ((lV).view.writes (Elt F) g0 [⟨Rect.whole cc0_scratch0.ty.shape, PAY d L I⟩])
          ((Rect.unit (s := S8x128) row S1x128.size hk).emb ((Shape.reshapeEquiv hq.numel_eq) x)) := by
    rw [View.read_apply, View.read_apply]; rfl
  rw [e, View.read_writes_whole, PAY_apply]
  exact hI _

/-! ### The values -/

/-- The table as the body addresses it, and row `k` of the list buffer. -/
abbrev tAll : Memref sig .scVector .hbm S1024x128 .f32 :=
  (tV).slice (Rect.unit (s := S1024x128) ![0, 0] S1024x128.size inb_S1024x128_S1024x128_0_0) (fun _ => rfl)
abbrev lRow (row : Fin 2 → Nat) (hk : ∀ a, row a + S1x128.size a ≤ S8x128.size a) : Memref sig .scVector .vmem S128 .i32 :=
  ((lV).slice (Rect.unit (s := S8x128) row S1x128.size hk) (fun _ => rfl)).squeeze S128 squeezes_S1x128_S128

/-- The list buffer once the fetch has landed. -/
abbrev lst (I : Buf (Elt F) (iLoc d)) (g : Buf (Elt F) ((lV).view.loc (VT d L))) : Buf (Elt F) ((lV).view.loc (VT d L)) :=
  (lV).view.writes (Elt F) g [⟨Rect.whole cc0_scratch0.ty.shape, PAY d L I⟩]

omit [FloatOps F] in
/-- Element `y` of output block `k` lies `128 k + y 0` rows into the task's rows. -/
theorem oBlkK_emb (k : Fin 8) (y : S128x128.Idx) :
    ((oBlkK L k).view.emb y 0).val = 2048 * (L 1).val + 1024 * (L 0).val + 128 * k.val + (y 0).val
      ∧ ((oBlkK L k).view.emb y 1).val = (y 1).val := by
  refine ⟨?_, ?_⟩
  · show k0_off2 L (BitVec.ofNat 32 (128 * k.val)) 0 + 1 * (y 0).val = _
    rw [k0_off2_eq]; simp
  · show k0_off2 L (BitVec.ofNat 32 (128 * k.val)) 1 + 1 * (y 1).val = _
    rw [k0_off2_eq]; simp

omit [FloatOps F] in
/-- Word `j` of list row `k` is the row number of output row `128 k + j` of the task. -/
theorem lst_read (I : Buf (Elt F) (iLoc d)) (g : Buf (Elt F) ((lV).view.loc (VT d L))) (k : Fin 8) (row : Fin 2 → Nat)
    (hk : ∀ a, row a + S1x128.size a ≤ S8x128.size a) (h0 : row 0 = k.val) (h1 : row 1 = 0) (x : S128.Idx) (y : S128x128.Idx) (hxy : (x 0).val = (y 0).val) :
    View.read (Elt F) (lRow row hk).view (lst d L I g) x = I (ipos ((oBlkK L k).view.emb y 0)) := by
  have e : View.read (Elt F) (lRow row hk).view (lst d L I g) x
      = View.read (Elt F) (lV).view (lst d L I g)
          ((Rect.unit (s := S8x128) row S1x128.size hk).emb ((Shape.reshapeEquiv squeezes_S1x128_S128.numel_eq) x)) := by
    rw [View.read_apply, View.read_apply]; rfl
  have hq : ∀ x : S128.Idx, ((Shape.reshapeEquiv (s := S1x128) (s' := S128) squeezes_S1x128_S128.numel_eq) x 1).val = (x 0).val := by
    decide +kernel
  have ho := (oBlkK_emb L k y).1
  have hL0 : (L 0).val < 2 := (L 0).isLt
  have hL1 : (L 1).val < 16 := (L 1).isLt
  have hy : (y 0).val < 128 := (y 0).isLt
  have hkk := k.isLt
  rw [e, View.read_writes_whole, PAY_apply]
  congr 1; funext a
  match a with
  | 0 =>
    apply Fin.ext
    show k0_off1 L 0 + 1 * (row 0 + 1 * ((Shape.reshapeEquiv (s := S1x128) (s' := S128) squeezes_S1x128_S128.numel_eq) x 0).val) = ((oBlkK L k).view.emb y 0).val / 128
    have hz : ((Shape.reshapeEquiv (s := S1x128) (s' := S128) squeezes_S1x128_S128.numel_eq) x 0).val < 1 := Fin.isLt _
    rw [k0_off1_eq, h0, ho]; simp; omega
  | 1 =>
    apply Fin.ext
    show k0_off1 L 1 + 1 * (row 1 + 1 * ((Shape.reshapeEquiv (s := S1x128) (s' := S128) squeezes_S1x128_S128.numel_eq) x 1).val) = ((oBlkK L k).view.emb y 0).val % 128
    rw [k0_off1_eq, h1, hq, ho, hxy]; simp; omega

omit [FloatOps F] in
/-- The gather of list row `k` brings block `k` of the gathered table. -/
theorem gather_eq (T : Buf (Elt F) (tLoc d)) (I : Buf (Elt F) (iLoc d)) (hI : ∀ j, (I j : BitVec 32).toNat < 1024)
    (g : Buf (Elt F) ((lV).view.loc (VT d L))) (k : Fin 8) (row : Fin 2 → Nat)
    (hk : ∀ a, row a + S1x128.size a ≤ S8x128.size a) (h0 : row 0 = k.val) (h1 : row 1 = 0) (hn) (hin) (y : S128x128.Idx) :
    SparseCore.gatherPayload gathers_S1024x128_S128x128 (View.read (Elt F) (tAll).view T)
        (SparseCore.rows (F := F) (si := S128) (View.read (Elt F) (lRow row hk).view (lst d L I g)) hn hin) y
      = gathered T I ((oBlkK L k).view.emb y) := by
  unfold SparseCore.gatherPayload gathered
  rw [View.read_apply]
  refine (cast_eq _ _).trans ?_
  congr 1; funext a
  match a with
  | 0 =>
    apply Fin.ext
    have hw := lst_read d L I g k row hk h0 h1 (S128.rowMajor.symm ((y 0).cast hn.symm)) y
      ((Shape.rowMajor_val_one _).symm.trans (congrArg Fin.val (S128.rowMajor.apply_symm_apply ((y 0).cast hn.symm))))
    have e : (gathers_S1024x128_S128x128.idx (SparseCore.rows (F := F) (si := S128) (View.read (Elt F) (lRow row hk).view (lst d L I g)) hn hin) y 0)
        = SparseCore.rows (F := F) (si := S128) (View.read (Elt F) (lRow row hk).view (lst d L I g)) hn hin (y 0) :=
      Shape.Gathers.idx_axis gathers_S1024x128_S128x128 _ y
    have hlt := hI (ipos ((oBlkK L k).view.emb y 0))
    show 0 + 1 * (gathers_S1024x128_S128x128.idx _ y 0).val = min _ 1023
    rw [e]
    show 0 + 1 * (View.read (Elt F) (lRow row hk).view (lst d L I g) (S128.rowMajor.symm ((y 0).cast hn.symm)) : BitVec 32).toNat = _
    rw [hw]; omega
  | 1 =>
    apply Fin.ext
    show 0 + 1 * (gathers_S1024x128_S128x128.idx _ y 1).val = ((oBlkK L k).view.emb y 1).val
    rw [Shape.Gathers.idx_of_ne gathers_S1024x128_S128x128 _ y 1 (by decide), (oBlkK_emb L k y).2]
    show 0 + 1 * (y 1).val = _
    omega

omit [FloatOps F] in
/-- A block written whole with the gathered table's values is that block of the gathered table. -/
theorem oBlkK_written (T : Buf (Elt F) (tLoc d)) (I : Buf (Elt F) (iLoc d)) (k : Fin 8) (o0 : Buf (Elt F) (oLoc d)) (pay : S128x128.Idx → Elt F .f32)
    (hpay : ∀ y, pay y = gathered T I ((oBlkK L k).view.emb y)) :
    ((oBlkK L k).view.loc (VT d L) ↦[(oBlkK L k).view.set]{fullShare} (oBlkK L k).view.writes (Elt F) o0 [⟨Rect.whole S128x128, pay⟩] : sProp 𝕄)
      = (oBlkK L k).view.loc (VT d L) ↦[(oBlkK L k).view.set]{fullShare} gathered T I := by
  refine pointsTo_congr fun i hi => ?_
  obtain ⟨y, -, rfl⟩ := Finset.mem_map.mp hi
  have h := congrFun (View.read_writes_whole (oBlkK L k).view o0 pay) y
  rw [View.read_apply] at h
  exact ((cast_eq _ _).symm.trans h).trans (hpay y)

omit [FloatOps F] in
/-- A staging slot reads back the last gather that filled it. -/
theorem slot_read (v : View sig .scVector .vmem S128x128 .f32) (g : v.ty.Contents (Elt F)) (p : S128x128.Idx → Elt F .f32) (R : List _) (y : S128x128.Idx) :
    ReadAs.same.apply (v.read (Elt F) (v.writes (Elt F) g (⟨Rect.whole S128x128, p⟩ :: R))) y = p y := by
  have h := View.read_writes_cons_emb v g (Rect.whole S128x128) p R y
  rwa [Rect.emb_whole_apply] at h

/-- The task's body run from the pieces the launch dealt it, in the body's spelling. -/
theorem tile_run (T : Buf (Elt F) (tLoc d)) (I : Buf (Elt F) (iLoc d)) (hI : ∀ j, (I j : BitVec 32).toNat < 1024)
    (O : CellTallies nD τ sig (HIx 1)) (W : Waits sig (HIx 1)) (q : PosShare TreeShare)
    (o0 : Buf (Elt F) (oLoc d)) (l0 : Buf (Elt F) ((lV).view.loc (VT d L))) (g0 : Buf (Elt F) ((gV).view.loc (VT d L))) (g1 : Buf (Elt F) ((gV).view.loc (VT d L))) :
    (iprop(Transfers.MayWaits (VT d L) (default : HIx 1) O
        ∗ ((iRowK L).view.loc (VT d L) ↦[(iRowK L).view.set]{fullShare} I)
        ∗ ((tV).view.loc (VT d L) ↦{q} T)
        ∗ ((oBlkK L 0).view.loc (VT d L) ↦[(oBlkK L 0).view.set]{fullShare} o0)
        ∗ ((oBlkK L 1).view.loc (VT d L) ↦[(oBlkK L 1).view.set]{fullShare} o0)
        ∗ ((oBlkK L 2).view.loc (VT d L) ↦[(oBlkK L 2).view.set]{fullShare} o0)
        ∗ ((oBlkK L 3).view.loc (VT d L) ↦[(oBlkK L 3).view.set]{fullShare} o0)
        ∗ ((oBlkK L 4).view.loc (VT d L) ↦[(oBlkK L 4).view.set]{fullShare} o0)
        ∗ ((oBlkK L 5).view.loc (VT d L) ↦[(oBlkK L 5).view.set]{fullShare} o0)
        ∗ ((oBlkK L 6).view.loc (VT d L) ↦[(oBlkK L 6).view.set]{fullShare} o0)
        ∗ ((oBlkK L 7).view.loc (VT d L) ↦[(oBlkK L 7).view.set]{fullShare} o0)
        ∗ ((lV).view.loc (VT d L) ↦[(lV).view.set]{fullShare} l0)
        ∗ ((slot0).view.loc (VT d L) ↦[(slot0).view.set]{fullShare} g0)
        ∗ ((slot1).view.loc (VT d L) ↦[(slot1).view.set]{fullShare} g1)
        ∗ cells0 d L
        ∗ owes (VT d L) O W) : sProp 𝕄)
      ⊢ wp frame (wpE (defs₀ (F := F)) 𝒱₀ (VT d L) none) Set.univ
          (cc0__gather_body L tV (Memref.isWhole_whole _) iV (Memref.isWhole_whole _) oV (Memref.isWhole_whole _)
            lV (Memref.isWhole_whole _) gV (Memref.isWhole_whole _) cc0_scratch2 cc0_scoped0 cc0_scoped1 cc0_scoped2 cc0_scoped3
            cc0_scoped4 cc0_scoped5 cc0_scoped6 cc0_scoped7 cc0_scoped8)
          fun _ => iprop(((iRowK L).view.loc (VT d L) ↦[(iRowK L).view.set]{fullShare} I)
            ∗ ((tV).view.loc (VT d L) ↦{q} T)
            ∗ ((oBlkK L 0).view.loc (VT d L) ↦[(oBlkK L 0).view.set]{fullShare} gathered T I)
            ∗ ((oBlkK L 1).view.loc (VT d L) ↦[(oBlkK L 1).view.set]{fullShare} gathered T I)
            ∗ ((oBlkK L 2).view.loc (VT d L) ↦[(oBlkK L 2).view.set]{fullShare} gathered T I)
            ∗ ((oBlkK L 3).view.loc (VT d L) ↦[(oBlkK L 3).view.set]{fullShare} gathered T I)
            ∗ ((oBlkK L 4).view.loc (VT d L) ↦[(oBlkK L 4).view.set]{fullShare} gathered T I)
            ∗ ((oBlkK L 5).view.loc (VT d L) ↦[(oBlkK L 5).view.set]{fullShare} gathered T I)
            ∗ ((oBlkK L 6).view.loc (VT d L) ↦[(oBlkK L 6).view.set]{fullShare} gathered T I)
            ∗ ((oBlkK L 7).view.loc (VT d L) ↦[(oBlkK L 7).view.set]{fullShare} gathered T I)
            ∗ (∃ g, (lV).view.loc (VT d L) ↦[(lV).view.set]{fullShare} g)
            ∗ (∃ g, (slot0).view.loc (VT d L) ↦[(slot0).view.set]{fullShare} g)
            ∗ (∃ g, (slot1).view.loc (VT d L) ↦[(slot1).view.set]{fullShare} g)
            ∗ cells0 d L
            ∗ ∃ W', ⌜∀ p ∈ W', p ∈ W ∨ p.2 = none⌝ ∗ owes (VT d L) O W') := by
  iintro ⟨#Hmw, HI, HT, HO0, HO1, HO2, HO3, HO4, HO5, HO6, HO7, HL, HG0, HG1, ⟨Hc0, Hc1, Hc2, Hc3, Hc4, Hc5, Hc6, Hc7, Hc8, Hc9⟩, HO⟩
  have hin := fun g => inb_of_lt d L I hI g (PAY d L I) rfl
  sl_unfold [cc0__gather_body]
  sl_exec
  have hp0 : ∀ y, tile_run.sl.dma0_1 d L T I g0 hin y = gathered T I ((oBlkK L 0).view.emb y) := fun y =>
    (slot_read (slot0).view g0 _ _ y).trans (gather_eq d L T I hI (lV).view.junk 0 ![0, 0] inb_S8x128_S1x128_0_0 rfl rfl _ _ y)
  ihave HO0' := (Entails.of_eq (oBlkK_written d L T I 0 o0 _ hp0)) $$ HO0
  have hp1 : ∀ y, tile_run.sl.dma0_2 d L T I g1 hin y = gathered T I ((oBlkK L 1).view.emb y) := fun y =>
    (slot_read (slot1).view g1 _ _ y).trans (gather_eq d L T I hI (lV).view.junk 1 ![1, 0] inb_S8x128_S1x128_1_0 rfl rfl _ _ y)
  ihave HO1' := (Entails.of_eq (oBlkK_written d L T I 1 o0 _ hp1)) $$ HO1
  have hp2 : ∀ y, tile_run.sl.dma0_3 d L T I g0 hin y = gathered T I ((oBlkK L 2).view.emb y) := fun y =>
    (slot_read (slot0).view g0 _ _ y).trans (gather_eq d L T I hI (lV).view.junk 2 ![2, 0] inb_S8x128_S1x128_2_0 rfl rfl _ _ y)
  ihave HO2' := (Entails.of_eq (oBlkK_written d L T I 2 o0 _ hp2)) $$ HO2
  have hp3 : ∀ y, tile_run.sl.dma0_4 d L T I g1 hin y = gathered T I ((oBlkK L 3).view.emb y) := fun y =>
    (slot_read (slot1).view g1 _ _ y).trans (gather_eq d L T I hI (lV).view.junk 3 ![3, 0] inb_S8x128_S1x128_3_0 rfl rfl _ _ y)
  ihave HO3' := (Entails.of_eq (oBlkK_written d L T I 3 o0 _ hp3)) $$ HO3
  have hp4 : ∀ y, tile_run.sl.dma0_5 d L T I g0 hin y = gathered T I ((oBlkK L 4).view.emb y) := fun y =>
    (slot_read (slot0).view g0 _ _ y).trans (gather_eq d L T I hI (lV).view.junk 4 ![4, 0] inb_S8x128_S1x128_4_0 rfl rfl _ _ y)
  ihave HO4' := (Entails.of_eq (oBlkK_written d L T I 4 o0 _ hp4)) $$ HO4
  have hp5 : ∀ y, tile_run.sl.dma0_6 d L T I g1 hin y = gathered T I ((oBlkK L 5).view.emb y) := fun y =>
    (slot_read (slot1).view g1 _ _ y).trans (gather_eq d L T I hI (lV).view.junk 5 ![5, 0] inb_S8x128_S1x128_5_0 rfl rfl _ _ y)
  ihave HO5' := (Entails.of_eq (oBlkK_written d L T I 5 o0 _ hp5)) $$ HO5
  have hp6 : ∀ y, tile_run.sl.dma0_7 d L T I g0 hin y = gathered T I ((oBlkK L 6).view.emb y) := fun y =>
    (slot_read (slot0).view g0 _ _ y).trans (gather_eq d L T I hI (lV).view.junk 6 ![6, 0] inb_S8x128_S1x128_6_0 rfl rfl _ _ y)
  ihave HO6' := (Entails.of_eq (oBlkK_written d L T I 6 o0 _ hp6)) $$ HO6
  have hp7 : ∀ y, tile_run.sl.dma0_8 d L T I g1 hin y = gathered T I ((oBlkK L 7).view.emb y) := fun y =>
    (slot_read (slot1).view g1 _ _ y).trans (gather_eq d L T I hI (lV).view.junk 7 ![7, 0] inb_S8x128_S1x128_7_0 rfl rfl _ _ y)
  ihave HO7' := (Entails.of_eq (oBlkK_written d L T I 7 o0 _ hp7)) $$ HO7
  sl_step
  isplitl [HI]; · iexact HI
  isplitl [HT]; · iexact HT
  isplitl [HO0']; · iexact HO0'
  isplitl [HO1']; · iexact HO1'
  isplitl [HO2']; · iexact HO2'
  isplitl [HO3']; · iexact HO3'
  isplitl [HO4']; · iexact HO4'
  isplitl [HO5']; · iexact HO5'
  isplitl [HO6']; · iexact HO6'
  isplitl [HO7']; · iexact HO7'
  isplitl [HL]; · iexists _; iexact HL
  isplitl [HG0]; · iexists _; iexact HG0
  isplitl [HG1]; · iexists _; iexact HG1
  isplitl [Hc0 Hc1 Hc2 Hc3 Hc4 Hc5 Hc6 Hc7 Hc8 Hc9]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact Hc9
  iexists _; isplitr
  swap; · iexact HO
  ipureintro; intro p hp
  repeat' (rcases Finset.mem_insert.mp hp with hp | hp; · exact .inr (hp ▸ rfl))
  exact .inl hp

end Tile

end Cert.Proof.Ga

end
-- ==== Proof.GaObl.lean ====
/-
  What the SparseCore call hands each vector subcore and gets back, and the proof that the subcore's task turns the one
  into the other: its rows of row numbers, a share of the table, and its eight blocks of the output.
-/
module

public import proofs.«01_k».proof.Proof.GaTile

@[expose] public section

noncomputable section

namespace Cert.Proof.Ga

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Gather.main_v0_scv : Memref Cert.Gather.sig Kind.scVector Space.hbm Cert.Gather.S1024x128 EltTy.f32)
local notation "iV" => (Memref.whole Cert.Gather.main_v1_scv : Memref Cert.Gather.sig Kind.scVector Space.hbm Cert.Gather.S256x128 EltTy.i32)
local notation "oV" => (Memref.whole Cert.Gather.main_v2_scv : Memref Cert.Gather.sig Kind.scVector Space.hbm Cert.Gather.S32768x128 EltTy.f32)
local notation "lV" => (Memref.whole Cert.Gather.cc0_scratch0 : Memref Cert.Gather.sig Kind.scVector Space.vmem Cert.Gather.S8x128 EltTy.i32)
local notation "gV" => (Memref.whole Cert.Gather.cc0_scratch1 : Memref Cert.Gather.sig Kind.scVector Space.vmem Cert.Gather.S2x128x128 EltTy.f32)

/-! ## The pieces of one task -/

/-- Task `w`'s share of the table. -/
abbrev tq (w : Fin 32) : PosShare TreeShare := pieceOf fullShare 32 (by decide) w

/-- What task `p` holds of the call's operands: its rows of row numbers, its share of the table, its blocks of `o`. -/
abbrev pieces (d : Dev nD) (T : Buf (Elt F) (tLoc d)) (I : Buf (Elt F) (iLoc d)) (o : Buf (Elt F) (oLoc d)) (p : Fin 2 × Fin 16) : sProp 𝕄 :=
  iprop((iLoc d ↦[iRowSet (wid p)]{fullShare} I) ∗ (tLoc d ↦{tq (wid p)} T)
    ∗ bigSep Finset.univ fun k : Fin 8 => oLoc d ↦[oBlkSet (bid (p, k))]{fullShare} o)

abbrev castP (c : Fin ((K (F := F)).nCore 0)) (i : Fin ((K (F := F)).nSub 0)) : Fin 2 × Fin 16 := (Fin.cast nCore_zero c, Fin.cast nSub_zero i)

variable (T : (d : Dev nD) → Buf (Elt F) (tLoc d)) (I : (d : Dev nD) → Buf (Elt F) (iLoc d)) (o0 : (d : Dev nD) → Buf (Elt F) (oLoc d))

/-- The call takes every task's pieces with the output as it stood, and brings them back with the gathered rows. -/
def P : (K (F := F)).Pay (nD := nD) (Val := Elt F) (Name := ℕ) (U := UU) where
  st := fun q d c => match q with | 0 => bigSep Finset.univ fun i : Fin ((K (F := F)).nSub 0) => pieces d (T d) (I d) (o0 d) (castP c i)
  dn := fun q d c => match q with | 0 => bigSep Finset.univ fun i : Fin ((K (F := F)).nSub 0) => pieces d (T d) (I d) (gathered (T d) (I d)) (castP c i)
  go := fun q d c i => match q with | 0 => pieces d (T d) (I d) (o0 d) (castP c i)
  td := fun q d c i => match q with | 0 => pieces d (T d) (I d) (gathered (T d) (I d)) (castP c i)
  x := fun _ _ => iprop(emp)

instance P_storable : (P (F := F) T I o0).IsStorable where
  st q d c := match q with
    | 0 => (inferInstance : BI.Storable (upEmb : UEmb _ 𝕄) (bigSep Finset.univ fun i : Fin ((K (F := F)).nSub 0) => pieces d (T d) (I d) (o0 d) (castP c i)))
  dn q d c := match q with
    | 0 => (inferInstance : BI.Storable (upEmb : UEmb _ 𝕄) (bigSep Finset.univ fun i : Fin ((K (F := F)).nSub 0) => pieces d (T d) (I d) (gathered (T d) (I d)) (castP c i)))
  go q d c i := match q with
    | 0 => (inferInstance : BI.Storable (upEmb : UEmb _ 𝕄) (pieces d (T d) (I d) (o0 d) (castP c i)))
  td q d c i := match q with
    | 0 => (inferInstance : BI.Storable (upEmb : UEmb _ 𝕄) (pieces d (T d) (I d) (gathered (T d) (I d)) (castP c i)))

theorem vecSplit : (K (F := F)).VecSplit' (P T I o0) 0 := by
  intro d c
  show (bigSep Finset.univ fun i : Fin ((K (F := F)).nSub 0) => pieces d (T d) (I d) (o0 d) (castP c i)) ⊢ |={Set.univ}=> iprop(
      (bigSep Finset.univ fun i : Fin ((K (F := F)).nSub 0) => pieces d (T d) (I d) (o0 d) (castP c i))
      ∗ ((bigSep Finset.univ fun i : Fin ((K (F := F)).nSub 0) => pieces d (T d) (I d) (gathered (T d) (I d)) (castP c i))
          -∗ (bigSep Finset.univ fun i : Fin ((K (F := F)).nSub 0) => pieces d (T d) (I d) (gathered (T d) (I d)) (castP c i))))
  iintro H; imodintro
  isplitl [H]; · iexact H
  iintro H; iexact H

/-! ## The pieces as the body addresses them -/

section Tile

variable (d : Dev nD) (L : grid0.Coords)

theorem irowK_eq : irowK L = irow (wid (pL L)) := by
  unfold irowK irow Rect.part Rect.block
  congr 1 <;> funext a
  · rw [k0_off1_eq]
    match a with
    | 0 =>
      simp [Shape.partIx, Shape.partSize, -Fin.val_cast]
      show 16 * (L 1).val + 8 * (L 0).val = (2 * (L 1).val + (L 0).val) * 8
      ring
    | 1 => simp [Shape.partIx, Shape.partSize]
  · match a with
    | 0 => simp [Shape.partSize]
    | 1 => simp [Shape.partSize]
theorem oblkK_eq (k : Fin 8) : oblkK L k = oblk (bid (pL L, k)) := by
  unfold oblkK oblk Rect.part Rect.block
  congr 1 <;> funext a
  · rw [k0_off2_eq]
    match a with
    | 0 =>
      simp [Shape.partIx, Shape.partSize, -Fin.val_cast]
      show 2048 * (L 1).val + 1024 * (L 0).val + 128 * k.val = (8 * (2 * (L 1).val + (L 0).val) + k.val) * 128
      ring
    | 1 => simp [Shape.partIx, Shape.partSize]
  · match a with
    | 0 => simp [Shape.partSize]
    | 1 => simp [Shape.partSize]

theorem set_iRowK : (iRowK L).view.set = iRowSet (wid (pL L)) := by
  show ((iV).view.slice (irowK L)).set = ((iV).view.slice (irow (wid (pL L)))).set
  rw [irowK_eq]
theorem set_oBlkK (k : Fin 8) : (oBlkK L k).view.set = oBlkSet (bid (pL L, k)) := by
  show ((oV).view.slice (oblkK L k)).set = ((oV).view.slice (oblk (bid (pL L, k)))).set
  rw [oblkK_eq]

theorem pts_iRowK (f : Buf (Elt F) (iLoc d)) :
    ((iRowK L).view.loc (VT d L) ↦[(iRowK L).view.set]{fullShare} f : sProp 𝕄) = iLoc d ↦[iRowSet (wid (pL L))]{fullShare} f := by
  rw [set_iRowK]
theorem pts_oBlkK (k : Fin 8) (f : Buf (Elt F) (oLoc d)) :
    ((oBlkK L k).view.loc (VT d L) ↦[(oBlkK L k).view.set]{fullShare} f : sProp 𝕄) = oLoc d ↦[oBlkSet (bid (pL L, k))]{fullShare} f := by
  rw [set_oBlkK]

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  iterate 7 rw [SparseCore.bigSep_insert' (by decide)]
  rw [bigSep_singleton]

theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  iterate 9 rw [SparseCore.bigSep_insert' (by decide)]
  rw [bigSep_singleton]

/-! ### The staging buffer's two slots -/

theorem gdiv : 2 ∣ S2x128x128.size 0 := ⟨1, rfl⟩
abbrev gpart (k : Fin 2) : Rect S2x128x128 := Rect.part (s := S2x128x128) (a₀ := 0) gdiv k
theorem srect0_eq : Rect.unit (s := S2x128x128) ![0, 0, 0] S1x128x128.size inb_S2x128x128_S1x128x128_0_0_0 = gpart 0 := by
  unfold gpart Rect.part Rect.block
  congr 1 <;> funext a <;> fin_cases a <;> simp [Shape.partIx, Shape.partSize]
theorem slot0_set : (slot0).view.set = (gpart 0).set := by
  show (((gV).view.slice (Rect.unit (s := S2x128x128) ![0, 0, 0] S1x128x128.size inb_S2x128x128_S1x128x128_0_0_0)).reshape S128x128 squeezes_S1x128x128_S128x128.numel_eq).set = _
  rw [View.set_reshape, View.set_slice]
  exact Finset.map_refl.trans (congrArg (fun r : Rect S2x128x128 => r.set) srect0_eq)
theorem srect1_eq : Rect.unit (s := S2x128x128) ![1, 0, 0] S1x128x128.size inb_S2x128x128_S1x128x128_1_0_0 = gpart 1 := by
  unfold gpart Rect.part Rect.block
  congr 1 <;> funext a <;> fin_cases a <;> simp [Shape.partIx, Shape.partSize]
theorem slot1_set : (slot1).view.set = (gpart 1).set := by
  show (((gV).view.slice (Rect.unit (s := S2x128x128) ![1, 0, 0] S1x128x128.size inb_S2x128x128_S1x128x128_1_0_0)).reshape S128x128 squeezes_S1x128x128_S128x128.numel_eq).set = _
  rw [View.set_reshape, View.set_slice]
  exact Finset.map_refl.trans (congrArg (fun r : Rect S2x128x128 => r.set) srect1_eq)
theorem gparts_disjoint : Disjoint (gpart 0).set (gpart 1).set := Rect.part_disjoint gdiv (by decide)
theorem gparts_cover : (gpart 0).set ∪ (gpart 1).set = (Finset.univ : Finset S2x128x128.Idx) := by
  have h := Rect.biUnion_part (s := S2x128x128) (a₀ := 0) gdiv
  rw [show (Finset.univ : Finset (Fin 2)) = {0, 1} by decide, Finset.biUnion_insert, Finset.singleton_biUnion] at h
  exact h

theorem pts_gV (f : Buf (Elt F) ((VT d L).loc cc0_scratch1)) :
    ((VT d L).loc cc0_scratch1 ↦{fullShare} f : sProp 𝕄)
      ⊢ iprop(((slot0).view.loc (VT d L) ↦[(slot0).view.set]{fullShare} f) ∗ ((slot1).view.loc (VT d L) ↦[(slot1).view.set]{fullShare} f)) := by
  rw [slot0_set, slot1_set]
  refine BIBase.Entails.trans (Entails.of_eq ?_) (pointsTo_union (ℓ := (VT d L).loc cc0_scratch1) (q := fullShare) (f := f) gparts_disjoint).1
  rw [gparts_cover]
theorem gV_join (f g : Buf (Elt F) ((VT d L).loc cc0_scratch1)) :
    iprop(((slot0).view.loc (VT d L) ↦[(slot0).view.set]{fullShare} f) ∗ ((slot1).view.loc (VT d L) ↦[(slot1).view.set]{fullShare} g))
      ⊢ (iprop(∃ h, (VT d L).loc cc0_scratch1 ↦{fullShare} h) : sProp 𝕄) := by
  rw [slot0_set, slot1_set]
  refine BIBase.Entails.trans (pointsTo_join (ℓ := (VT d L).loc cc0_scratch1) (q := fullShare) (f := f) (g := g) gparts_disjoint) ?_
  rw [gparts_cover]
  iintro H; iexists _; iexact H

theorem pts_lV (f : Buf (Elt F) ((VT d L).loc cc0_scratch0)) :
    ((lV).view.loc (VT d L) ↦[(lV).view.set]{fullShare} f : sProp 𝕄) = (VT d L).loc cc0_scratch0 ↦{fullShare} f := by
  rw [show (lV).view.set = Finset.univ from View.set_whole _]

/-! ### The task's own cells and buffers -/

abbrev cellEmb : Fin 10 ↪ GSem nD τ sig :=
  ⟨fun k => (VT d L, SemLoc.dma (csem k.val k.isLt)), fun a b h => by
    have h' : csem a.val a.isLt = csem b.val b.isLt := SemLoc.dma.inj (congrArg Prod.snd h)
    have := congrArg Fin.val h'
    exact Fin.ext (by simpa [csem] using this)⟩

theorem ownSems0_V :
    (ownSems0 (VT d L) : sProp 𝕄)
      = iprop(cells0 d L ∗ bigSep (ownCells (VT d L) \ Finset.univ.map (cellEmb d L)) fun g => semVal g 0) := by
  unfold SparseCore.Cfg.ownSems0
  have hsub : Finset.univ.map (cellEmb d L) ⊆ ownCells (VT d L) := by
    intro g hg
    obtain ⟨k, hk, rfl⟩ := Finset.mem_map.mp hg
    clear hg hk
    refine mem_ownCells.mpr ⟨rfl, ?_⟩
    show (SemLoc.dma (csem k.val k.isLt) : SemLoc sig).isScoped .scVector = true
    revert k; decide
  rw [bigSep_sdiff_split hsub, bigSep_map, bigSep_ten]
  rfl

theorem ownBufs_V :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- The task on vector subcore `(L 0, L 1)` of device `d`: its pieces in, its pieces out with the gathered rows. -/
theorem tile_body (hF : (K (F := F)).Facts) (T : Buf (Elt F) (tLoc d)) (I : Buf (Elt F) (iLoc d)) (o0 : Buf (Elt F) (oLoc d))
    (hI : ∀ j, (I j : BitVec 32).toNat < 1024) (O : CellTallies nD τ sig (HIx 1)) (W : Waits sig (HIx 1)) (hO : ∀ g, O g none = 0) :
    iprop(levAts (K (F := F)).L (K (F := F)).lev ∗ emp ∗ pieces d T I o0 (pL L)
        ∗ scopedBufs (VT d L) ∗ scopedSems0 (VT d L) ∗ owes (VT d L) O W)
      ⊢ wp frame (wpE (defs₀ (F := F)) 𝒱₀ (VT d L) none) Set.univ
          (cc0__gather_body L tV (Memref.isWhole_whole _) iV (Memref.isWhole_whole _) oV (Memref.isWhole_whole _)
            lV (Memref.isWhole_whole _) gV (Memref.isWhole_whole _) cc0_scratch2 cc0_scoped0 cc0_scoped1 cc0_scoped2 cc0_scoped3
            cc0_scoped4 cc0_scoped5 cc0_scoped6 cc0_scoped7 cc0_scoped8)
          fun _ => iprop(pieces d T I (gathered T I) (pL L) ∗ scopedBufs (VT d L) ∗ scopedSems0 (VT d L)
            ∗ ∃ W', ⌜∀ p ∈ W', p ∈ W ∨ p.2 = none⌝ ∗ owes (VT d L) O W') := by
  unfold pieces
  rw [(K (F := F)).scopedBufs_V hF d (cV L) (jV L), SparseCore.Cfg.scopedSems0_V (Val := Elt F) d (cV L) (jV L), ownSems0_V, ownBufs_V,
    bigSep_eight, bigSep_eight]
  iintro ⟨#Hlv, -, ⟨HI, HT, HO0, HO1, HO2, HO3, HO4, HO5, HO6, HO7⟩, ⟨⟨%fl, Hl⟩, ⟨%fg, Hg⟩, Hbufs⟩, ⟨Hcells, Hsems⟩, HO⟩
  ihave Hmw := (show levAts (K (F := F)).L (K (F := F)).lev ⊢ Transfers.MayWaits (VT d L) (default : HIx 1) O from
    (K (F := F)).mayWaits_none (thr := VT d L) hO) $$ Hlv
  ihave Hgs := (pts_gV (F := F) d L fg) $$ Hg
  icases Hgs with ⟨Hg0, Hg1⟩
  have hrun := tile_run d L T I hI O W (tq (wid (pL L))) o0 fl fg fg
  simp only [pts_oBlkK (F := F) d L] at hrun
  rw [pts_iRowK] at hrun
  ihave Hl' := (Entails.of_eq (pts_lV (F := F) d L fl).symm) $$ Hl
  ihave Hw := hrun $$ [Hmw HI HT HO0 HO1 HO2 HO3 HO4 HO5 HO6 HO7 Hl' Hg0 Hg1 Hcells HO]
  · isplitl [Hmw]; · iexact Hmw
    isplitl [HI]; · iexact HI
    isplitl [HT]; · iexact HT
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [Hl']; · iexact Hl'
    isplitl [Hg0]; · iexact Hg0
    isplitl [Hg1]; · iexact Hg1
    isplitl [Hcells]; · iexact Hcells
    iexact HO
  iapply (wp_wand_r frame _ _)
  isplitl [Hw]; · iexact Hw
  iintro %_ ⟨HI, HT, HO0, HO1, HO2, HO3, HO4, HO5, HO6, HO7, ⟨%fl', Hl⟩, ⟨%fa, Hg0⟩, ⟨%fb, Hg1⟩, Hcells, HO⟩
  ihave Hg := (gV_join (F := F) d L fa fb) $$ [Hg0 Hg1]
  · isplitl [Hg0] <;> iassumption
  isplitl [HI HT HO0 HO1 HO2 HO3 HO4 HO5 HO6 HO7]
  · isplitl [HI]; · iexact HI
    isplitl [HT]; · iexact HT
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    iexact HO7
  isplitl [Hl Hg Hbufs]
  · isplitl [Hl]
    · iexists fl'; iapply (Entails.of_eq (pts_lV (F := F) d L fl')); iexact Hl
    isplitl [Hg]; · iexact Hg
    iexact Hbufs
  isplitl [Hcells Hsems]
  · isplitl [Hcells] <;> iassumption
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore0 hsub0 (fun c s => cc0__gather_body (coordsV c s) tV (Memref.isWhole_whole _) iV (Memref.isWhole_whole _) oV (Memref.isWhole_whole _)
            lV (Memref.isWhole_whole _) gV (Memref.isWhole_whole _) cc0_scratch2 cc0_scoped0 cc0_scoped1 cc0_scoped2 cc0_scoped3
            cc0_scoped4 cc0_scoped5 cc0_scoped6 cc0_scoped7 cc0_scoped8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

set_option maxRecDepth 16384 in
theorem tileObl [FloatOps F] (hF : (K (F := F)).Facts) (hI : ∀ d j, (I d j : BitVec 32).toNat < 1024) :
    (K (F := F)).TileObl (D (F := F)) 𝒱 (P T I o0) v₀ 0 := by
  intro d c i O W hO _ _
  simp only [show (P T I o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (T d) (I d) (o0 d) (hI d) O W hO).trans (wp_mono frame _ _ fun _ => obl_post)

end Cert.Proof.Ga

end
-- ==== Proof.GaSplit.lean ====
/-
  The SparseCore call's arrays whole are what its tasks hold together.
-/
module

public import proofs.«01_k».proof.Proof.GaObl

@[expose] public section

noncomputable section

namespace Cert.Proof.Ga

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Gather.main_v0_scv : Memref Cert.Gather.sig Kind.scVector Space.hbm Cert.Gather.S1024x128 EltTy.f32)
local notation "iV" => (Memref.whole Cert.Gather.main_v1_scv : Memref Cert.Gather.sig Kind.scVector Space.hbm Cert.Gather.S256x128 EltTy.i32)
local notation "oV" => (Memref.whole Cert.Gather.main_v2_scv : Memref Cert.Gather.sig Kind.scVector Space.hbm Cert.Gather.S32768x128 EltTy.f32)
local notation "lV" => (Memref.whole Cert.Gather.cc0_scratch0 : Memref Cert.Gather.sig Kind.scVector Space.vmem Cert.Gather.S8x128 EltTy.i32)
local notation "gV" => (Memref.whole Cert.Gather.cc0_scratch1 : Memref Cert.Gather.sig Kind.scVector Space.vmem Cert.Gather.S2x128x128 EltTy.f32)

/-! ## Tasks by number -/

/-- The (SparseCore, subcore) pairs by task number. -/
def widE : (Fin 2 × Fin 16) ≃ Fin 32 where
  toFun := wid
  invFun w := (⟨w.val % 2, by omega⟩, ⟨w.val / 2, by omega⟩)
  left_inv p := by ext <;> simp only [wid] <;> omega
  right_inv w := by ext; simp only [wid]; omega
/-- The tasks' blocks by block number. -/
def bidE : ((Fin 2 × Fin 16) × Fin 8) ≃ Fin 256 where
  toFun := bid
  invFun b := ((⟨b.val / 8 % 2, by omega⟩, ⟨b.val / 8 / 2, by omega⟩), ⟨b.val % 8, by omega⟩)
  left_inv p := by
    have h1 := p.1.1.isLt; have h2 := p.1.2.isLt; have h3 := p.2.isLt
    ext <;> simp only [bid, wid] <;> omega
  right_inv b := by ext; simp only [bid, wid]; omega

theorem iRowSet_eq (w : Fin 32) : iRowSet w = (irow w).set := by
  show ((View.whole (main_v1_scv : Ref sig .scVector)).slice (irow w)).set = _
  rw [View.set_slice]; exact Finset.map_refl
theorem oBlkSet_eq (b : Fin 256) : oBlkSet b = (oblk b).set := by
  show ((View.whole (main_v2_scv : Ref sig .scVector)).slice (oblk b)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem oblks_disjoint : ∀ i ∈ (Finset.univ : Finset (Fin 256)), ∀ j ∈ (Finset.univ : Finset (Fin 256)), i ≠ j → Disjoint (oBlkSet i) (oBlkSet j) :=
  fun i _ j _ h => by rw [oBlkSet_eq, oBlkSet_eq]; exact Rect.part_disjoint odiv h
theorem irows_cover : (Finset.univ : Finset (Fin 32)).biUnion iRowSet = Finset.univ :=
  (Finset.biUnion_congr rfl fun i _ => iRowSet_eq i).trans (Rect.biUnion_part idiv)
theorem oblks_cover : (Finset.univ : Finset (Fin 256)).biUnion oBlkSet = Finset.univ :=
  (Finset.biUnion_congr rfl fun i _ => oBlkSet_eq i).trans (Rect.biUnion_part odiv)

variable (d : Dev nD)

/-- The row numbers whole are every task's rows of them. -/
theorem iPts_tasks (f : Buf (Elt F) (iLoc d)) :
    (iLoc d ↦{fullShare} f : sProp 𝕄) = bigSep Finset.univ fun p : Fin 2 × Fin 16 => iLoc d ↦[iRowSet (wid p)]{fullShare} f := by
  refine Eq.trans ?_ (bigSep_univ_equiv widE (fun w => (iLoc d ↦[iRowSet w]{fullShare} f : sProp 𝕄)))
  rw [← pointsTo_biUnion Finset.univ (ℓ := iLoc d) iRowSet irows_disjoint, irows_cover]; try rfl
/-- The table whole is every task's share of it. -/
theorem tPts_tasks (f : Buf (Elt F) (tLoc d)) :
    (tLoc d ↦{fullShare} f : sProp 𝕄) = bigSep Finset.univ fun p : Fin 2 × Fin 16 => tLoc d ↦{tq (wid p)} f := by
  refine Eq.trans ?_ (bigSep_univ_equiv widE (fun w => (tLoc d ↦{tq w} f : sProp 𝕄)))
  exact pointsTo_piecesOf Finset.univ f (by decide) fullShare
/-- The output whole is every task's blocks of it. -/
theorem oPts_tasks (f : Buf (Elt F) (oLoc d)) :
    (oLoc d ↦{fullShare} f : sProp 𝕄)
      = bigSep Finset.univ fun p : Fin 2 × Fin 16 => bigSep Finset.univ fun k : Fin 8 => oLoc d ↦[oBlkSet (bid (p, k))]{fullShare} f := by
  rw [← bigSep_univ_prod (fun x : (Fin 2 × Fin 16) × Fin 8 => (oLoc d ↦[oBlkSet (bid x)]{fullShare} f : sProp 𝕄))]
  refine Eq.trans ?_ (bigSep_univ_equiv bidE (fun b => (oLoc d ↦[oBlkSet b]{fullShare} f : sProp 𝕄)))
  rw [← pointsTo_biUnion Finset.univ (ℓ := oLoc d) oBlkSet oblks_disjoint, oblks_cover]; try rfl

/-- Every task's pieces are the call's three arrays whole. -/
theorem pieces_whole (T : Buf (Elt F) (tLoc d)) (I : Buf (Elt F) (iLoc d)) (o : Buf (Elt F) (oLoc d)) :
    (bigSep Finset.univ fun c : Fin ((K (F := F)).nCore 0) => bigSep Finset.univ fun i : Fin ((K (F := F)).nSub 0) => pieces d T I o (castP (F := F) c i))
      = iprop((iLoc d ↦{fullShare} I) ∗ (tLoc d ↦{fullShare} T) ∗ (oLoc d ↦{fullShare} o : sProp 𝕄)) := by
  have h : (bigSep Finset.univ fun c : Fin 2 => bigSep Finset.univ fun i : Fin 16 => pieces d T I o (c, i))
      = iprop((iLoc d ↦{fullShare} I) ∗ (tLoc d ↦{fullShare} T) ∗ (oLoc d ↦{fullShare} o : sProp 𝕄)) := by
    rw [← bigSep_univ_prod (fun p : Fin 2 × Fin 16 => pieces d T I o p), iPts_tasks, tPts_tasks, oPts_tasks, ← bigSep_sep', ← bigSep_sep']
  exact h

end Cert.Proof.Ga

end
-- ==== Proof.GaValues.lean ====
/-
  The values the gathering program moves: what each of @main's arrays holds between its operations, in the arguments.
-/
module

public import proofs.«01_k».proof.Proof.GaSplit

@[expose] public section

noncomputable section

namespace Cert.Proof.Ga

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open StableHlo (held held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values -/

abbrev cLoc (d : Dev nD) : Loc nD τ sig := (SparseCore.T d).loc main_arg0
abbrev nLoc (d : Dev nD) : Loc nD τ sig := (SparseCore.T d).loc main_arg1
abbrev rLoc (d : Dev nD) : Loc nD τ sig := (SparseCore.T d).loc main_v3

/-- The codebook padded to 128 lanes, as the call reads it. -/
def padded (c : Vec F S1024x64 .f32) : Vec F S1024x128 .f32 :=
  pad S1024x128 ![0, 0] ![0, 64] ![0, 0] c (sitofp .f32 (constantI S_ 32 0#32)) pads_S1024x64_S1024x128_000_0640 h_S_
/-- The row numbers laid out 256 by 128, as the call reads them. -/
def relaid (n : IVec S32768 32) : IVec S256x128 32 := shapeCast S256x128 n shapeCasts_S32768_S256x128
/-- The program's result. -/
def result (c : Vec F S1024x64 .f32) (n : IVec S32768 32) : Vec F S32768x64 .f32 :=
  extractStridedSlice S32768x64 ![0, 0] (gathered (padded c) (relaid n)) slices_S32768x128_S32768x64_0_0

def Tm (d : Dev nD) : Buf (Elt F) (tLoc d) := padded (m (cLoc d))
def Im (d : Dev nD) : Buf (Elt F) (iLoc d) := relaid (m (nLoc d))
def Om (d : Dev nD) : Buf (Elt F) (oLoc d) := m (oLoc d)
def Rm (d : Dev nD) : Buf (Elt F) (rLoc d) := result (m (cLoc d)) (m (nLoc d))

/-! ## @main's operations and the arrays' contents between them -/

abbrev dr (b : Ref sig .tc) : DevRef τ sig := Proc.devRef .tc b

abbrev opC : HloOp τ sig (Elt F) := StableHlo.nullary main_c (constantI S_ 32 0#32)
abbrev opSi : HloOp τ sig (Elt F) := StableHlo.TRef.unary (StableHlo.TRef.of main_c) main_call0.v0 (sitofp .f32)
abbrev opPad : HloOp τ sig (Elt F) := StableHlo.TRef.binary (StableHlo.TRef.of main_arg0 : StableHlo.TRef sig ⟨S1024x64, .f32⟩) main_call0.v0 main_call0.v1 (fun x v => pad S1024x128 ![0, 0] ![0, 64] ![0, 0] x v pads_S1024x64_S1024x128_000_0640 h_S_)
abbrev opR : HloOp τ sig (Elt F) := StableHlo.reshape main_arg1 main_v1 (rfl : (.i32 : EltTy) = .i32) shapeCasts_S32768_S256x128
abbrev opS : HloOp τ sig (Elt F) := StableHlo.unary main_v2 main_v3 ((extractStridedSlice S32768x64 ![0, 0] · slices_S32768x128_S32768x64_0_0) : (⟨S32768x128, .f32⟩ : BufTy).Contents (Elt F) → (⟨S32768x64, .f32⟩ : BufTy).Contents (Elt F))

def V0 (d : Dev nD) : Valuation τ sig (Elt F) := fun b => m (d, b)
def V1 (d : Dev nD) : Valuation τ sig (Elt F) := (opC (F := F)).result (V0 m d)
def V2 (d : Dev nD) : Valuation τ sig (Elt F) := (opSi (F := F)).result (V1 m d)
def V3 (d : Dev nD) : Valuation τ sig (Elt F) := (opPad (F := F)).result (V2 m d)
/-- Before the call. -/
def V6 (d : Dev nD) : Valuation τ sig (Elt F) := (opR (F := F)).result (V3 m d)
/-- After it. -/
def V7 (d : Dev nD) : Valuation τ sig (Elt F) := Function.update (V6 m d) (dr main_v2) (gathered (Tm m d) (Im m d))
/-- At the end. -/
def V8 (d : Dev nD) : Valuation τ sig (Elt F) := (opS (F := F)).result (V7 m d)

/-- An operation changes only the array it writes. -/
theorem kept (op : HloOp τ sig (Elt F)) (y : Ref sig .tc) (hw : op.writes = {dr y}) (V : Valuation τ sig (Elt F)) {b : Ref sig .tc} (h : b ≠ y) :
    op.result V (dr b) = V (dr b) :=
  op.result_of_not_mem V (by rw [hw, Finset.mem_singleton]; exact StableHlo.devRef_ne_of_ne h)

theorem V3_of (d : Dev nD) (b : Ref sig .tc) (h1 : b ≠ main_c) (h2 : b ≠ main_call0_v0) (h3 : b ≠ main_v0) : V3 m d (dr b) = m (d, dr b) := by
  unfold V3 V2 V1
  rw [kept opPad main_v0 rfl _ h3, kept opSi main_call0_v0 rfl _ h2, kept opC main_c rfl _ h1]
  rfl
theorem V1_c (d : Dev nD) : V1 m d (dr main_c) = constantI S_ 32 0#32 := StableHlo.nullary_result _ _ _ _
theorem V2_call0 (d : Dev nD) : V2 m d (dr main_call0_v0) = sitofp (F := F) .f32 (constantI S_ 32 0#32) := by
  refine (StableHlo.unary_result _ _ _ _ _ _).trans ?_
  rw [show V1 m d (Proc.devRef .tc (StableHlo.TRef.of main_c : StableHlo.TRef sig _).ref) = constantI S_ 32 0#32 from V1_c m d]
  rfl
theorem V2_arg0 (d : Dev nD) : V2 m d (dr main_arg0) = m (cLoc d) := by
  unfold V2 V1
  rw [kept opSi main_call0_v0 rfl _ (by decide), kept opC main_c rfl _ (by decide)]
  rfl
theorem V3_v0 (d : Dev nD) : V3 m d (dr main_v0) = Tm m d := by
  refine (StableHlo.binary_result _ _ _ _ _ _ _ _).trans ?_
  rw [show V2 m d (Proc.devRef .tc (StableHlo.TRef.of main_arg0 : StableHlo.TRef sig _).ref) = m (cLoc d) from V2_arg0 m d,
    show V2 m d (Proc.devRef .tc (main_call0.v0).ref) = sitofp (F := F) .f32 (constantI S_ 32 0#32) from V2_call0 m d]
  rfl

theorem V6_of (d : Dev nD) (b : Ref sig .tc) (h : b ≠ main_v1) : V6 m d (dr b) = V3 m d (dr b) :=
  kept opR main_v1 rfl _ h
theorem V6_v0 (d : Dev nD) : V6 m d (dr main_v0) = Tm m d := (V6_of m d _ (by decide)).trans (V3_v0 m d)
theorem V6_v2 (d : Dev nD) : V6 m d (dr main_v2) = Om m d :=
  (V6_of m d _ (by decide)).trans (V3_of m d _ (by decide) (by decide) (by decide))
theorem V6_v1 (d : Dev nD) : V6 m d (dr main_v1) = Im m d := by
  refine (StableHlo.reshape_result _ _ _ _ _ _ _).trans ?_
  rw [show V3 m d (Proc.devRef .tc main_arg1) = m (nLoc d) from V3_of m d main_arg1 (by decide) (by decide) (by decide)]
  rfl
theorem V7_v2 (d : Dev nD) : V7 m d (dr main_v2) = gathered (Tm m d) (Im m d) := Function.update_self _ _ _
theorem V7_of (d : Dev nD) (b : Ref sig .tc) (h : b ≠ main_v2) : V7 m d (dr b) = V6 m d (dr b) :=
  Function.update_of_ne (StableHlo.devRef_ne_of_ne h) _ _
theorem V8_v3 (d : Dev nD) : V8 m d (dr main_v3) = Rm m d := by
  refine (StableHlo.unary_result _ _ _ _ _ _).trans ?_
  rw [show V7 m d (Proc.devRef .tc main_v2) = gathered (Tm m d) (Im m d) from V7_v2 m d]
  rfl
theorem V8_arg (d : Dev nD) (b : Ref sig .tc) (h : b = main_arg0 ∨ b = main_arg1) : V8 m d (dr b) = m (d, dr b) := by
  unfold V8
  rcases h with rfl | rfl
  all_goals
    rw [kept opS main_v3 rfl _ (by decide)]
    exact (V7_of m d _ (by decide)).trans ((V6_of m d _ (by decide)).trans
      (V3_of m d _ (by decide) (by decide) (by decide)))

end Cert.Proof.Ga

end
-- ==== Proof.GaRun.lean ====
/-
  The gathering program runs: on every device @main pads the codebook, lays the row numbers out, runs the SparseCore's
  call and slices the result; the arguments keep their contents and every semaphore ends at zero.
-/
module

public import proofs.«01_k».proof.Proof.GaValues

@[expose] public section

noncomputable section

namespace Cert.Proof.Ga

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open StableHlo (held held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays held together -/

/-- The TensorCore's arrays that live from start to end. -/
abbrev ucRefs : Finset (DevRef τ sig) := (StableHlo.tcRefs τ sig).filter fun b => ¬ b.isScoped

theorem unscopedBufs_held (d : Dev nD) (W : Valuation τ sig (Elt F)) :
    (unscopedBufs d (fun b => W (dr b)) : sProp 𝕄) = held (T d) ucRefs W := by
  unfold unscopedBufs StableHlo.held ucRefs StableHlo.tcRefs
  rw [Finset.filter_map, bigSep_map]
  rfl

theorem held_congr (d : Dev nD) (S : Finset (DevRef τ sig)) (V W : Valuation τ sig (Elt F)) (h : ∀ b ∈ S, V b = W b) :
    (held (T d) S V : sProp 𝕄) = held (T d) S W := bigSep_congr fun b hb => by rw [h b hb]

abbrev callRefs : Finset (DevRef τ sig) := {dr main_v1, dr main_v0, dr main_v2}
theorem callRefs_sub : callRefs ⊆ ucRefs := by decide
theorem held_call (d : Dev nD) (W : Valuation τ sig (Elt F)) :
    (held (T d) callRefs W : sProp 𝕄)
      = iprop((iLoc d ↦{fullShare} W (dr main_v1)) ∗ (tLoc d ↦{fullShare} W (dr main_v0)) ∗ (oLoc d ↦{fullShare} W (dr main_v2))) := by
  unfold StableHlo.held
  rw [SparseCore.bigSep_insert' (by decide), SparseCore.bigSep_insert' (by decide), bigSep_singleton]

abbrev finRefs : Finset (DevRef τ sig) := {dr main_arg0, dr main_arg1, dr main_v3}
theorem finRefs_sub : finRefs ⊆ ucRefs := by decide
theorem held_fin (d : Dev nD) (W : Valuation τ sig (Elt F)) :
    (held (T d) finRefs W : sProp 𝕄)
      = iprop((cLoc d ↦{fullShare} W (dr main_arg0)) ∗ (nLoc d ↦{fullShare} W (dr main_arg1)) ∗ (rLoc d ↦{fullShare} W (dr main_v3))) := by
  unfold StableHlo.held
  rw [SparseCore.bigSep_insert' (by decide), SparseCore.bigSep_insert' (by decide), bigSep_singleton]

/-! ## The ghost state at launch -/

def u₀ : UU := (initOf (K (F := F)).hsCells (K (F := F)).hsToks, 1)

theorem bigSep_emp' {A : Type} (s : Finset A) : (bigSep s fun _ => iprop(emp)) = (iprop(emp) : sProp 𝕄) := bigSep_emp_const s

theorem hu₀ (T' : (d : Dev nD) → Buf (Elt F) (tLoc d)) (I' : (d : Dev nD) → Buf (Elt F) (iLoc d)) (o' : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => (iprop(emp) : sProp 𝕄))
        ∗ bigSep Finset.univ fun thr : Thread nD τ => bigSep Finset.univ fun q : Fin 1 => (P T' I' o').x q thr) := by
  unfold u₀
  iintro Hu
  ihave H := (ownU_pair (initOf (K (F := F)).hsCells (K (F := F)).hsToks) _) $$ Hu
  icases H with ⟨HH, -⟩
  imodintro
  isplitl [HH]; · iexact HH
  isplitr
  · rw [bigSep_emp' (F := F)]; iempintro
  rw [show (bigSep Finset.univ fun thr : Thread nD τ => bigSep Finset.univ fun q : Fin 1 => (P (F := F) T' I' o').x q thr) = bigSep Finset.univ fun _ => iprop(emp) from
    bigSep_congr fun _ _ => bigSep_univ_of_subsingleton (0 : Fin 1), bigSep_emp' (F := F)]
  iempintro

/-! ## @main -/

/-- What @main leaves the claims: the arguments at their launch contents, the result at its value. -/
abbrev FIN (d : Dev nD) : sProp 𝕄 :=
  iprop((cLoc d ↦{fullShare} m (cLoc d)) ∗ (nLoc d ↦{fullShare} m (nLoc d)) ∗ (rLoc d ↦{fullShare} Rm m d))

theorem st0_eq (d : Dev nD) : (bigSep Finset.univ fun c : Fin ((K (F := F)).nCore 0) => (P (Tm m) (Im m) (Om m)).st 0 d c)
    = (iprop((iLoc d ↦{fullShare} Im m d) ∗ (tLoc d ↦{fullShare} Tm m d) ∗ (oLoc d ↦{fullShare} Om m d)) : sProp 𝕄) :=
  pieces_whole d (Tm m d) (Im m d) (Om m d)
theorem dn0_eq (d : Dev nD) : (bigSep Finset.univ fun c : Fin ((K (F := F)).nCore 0) => (P (Tm m) (Im m) (Om m)).dn 0 d c)
    = (iprop((iLoc d ↦{fullShare} Im m d) ∗ (tLoc d ↦{fullShare} Tm m d) ∗ (oLoc d ↦{fullShare} gathered (Tm m d) (Im m d))) : sProp 𝕄) :=
  pieces_whole d (Tm m d) (Im m d) (gathered (Tm m d) (Im m d))

theorem hC : (opC (F := F)).bufs ⊆ ucRefs := show ({dr main_c} : Finset (DevRef τ sig)) ⊆ ucRefs by decide
theorem hSi : (opSi (F := F)).bufs ⊆ ucRefs := show ({dr main_c, dr main_call0_v0} : Finset (DevRef τ sig)) ⊆ ucRefs by decide
theorem hPad : (opPad (F := F)).bufs ⊆ ucRefs := show ({dr main_arg0, dr main_call0_v0, dr main_v0} : Finset (DevRef τ sig)) ⊆ ucRefs by decide
theorem hR : (opR (F := F)).bufs ⊆ ucRefs := show ({dr main_arg1, dr main_v1} : Finset (DevRef τ sig)) ⊆ ucRefs by decide
theorem hS : (opS (F := F)).bufs ⊆ ucRefs := show ({dr main_v2, dr main_v3} : Finset (DevRef τ sig)) ⊆ ucRefs by decide

theorem hmain (κ : GSem nD τ sig → ℕ) (d : Dev nD) :
    iprop((K (F := F)).ctx EH (P (Tm m) (Im m) (Om m)) κ ∗ (K (F := F)).tcSt EH d 0 ∗ (K (F := F)).tcRes m ρ d ∗ (iprop(emp) : sProp 𝕄))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (fun b => m ((SparseCore.T d).loc b)) = (fun b => V0 m d (dr b)) from rfl, unscopedBufs_held]
  simp only [main, fn_pad.body, wp_bind, wp_pure]
  iintro ⟨#Hctx, Hst, ⟨Hb, Hheld, Hts, -⟩, -⟩
  iapply (wp_hlo_within 𝒱 (SparseCore.T d) none Set.univ (op := opC) (S := ucRefs) hC (V := V0 m d)) $$ [Hb Hheld]
  · isplitl [Hb] <;> iassumption
  iintro ⟨Hb, Hheld⟩
  rw [wp_ret]; imodintro
  iapply (wp_hlo_within 𝒱 (SparseCore.T d) none Set.univ (op := opSi) (S := ucRefs) hSi (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opPad) (S := ucRefs) hPad (V := (opSi (F := F)).result ((opC (F := F)).result (V0 m d)))) $$ [Hb Hheld]
  · isplitl [Hb] <;> iassumption
  iintro ⟨Hb, Hheld⟩
  rw [wp_ret]; imodintro; imodintro
  ihave Hheld := (Entails.of_eq (show (held (T d) ucRefs ((opPad (F := F)).result ((opSi (F := F)).result ((opC (F := F)).result (V0 m d)))) : sProp 𝕄) = held (T d) ucRefs (V3 m d) from rfl)) $$ Hheld
  iapply (wp_hlo_within 𝒱 (SparseCore.T d) none Set.univ (op := opR) (S := ucRefs) hR (V := V3 m d)) $$ [Hb Hheld]
  · isplitl [Hb] <;> iassumption
  iintro ⟨Hb, Hheld⟩
  rw [wp_ret]; imodintro
  -- the SparseCore's call
  ihave Hh := (Entails.of_eq (show (held (T d) ucRefs ((opR (F := F)).result (V3 m d)) : sProp 𝕄)
      = iprop(((iLoc d ↦{fullShare} Im m d) ∗ (tLoc d ↦{fullShare} Tm m d) ∗ (oLoc d ↦{fullShare} Om m d)) ∗ held (T d) (ucRefs \ callRefs) (V6 m d)) from by
    show held (T d) ucRefs (V6 m d) = _
    rw [held_sub_split (T d) callRefs_sub (V6 m d), held_call, V6_v0, V6_v1, V6_v2])) $$ Hheld
  icases Hh with ⟨Hcall, Hrest⟩
  iapply ((K (F := F)).wp_run (D (F := F)) 𝒱 (EH := EH) (P := P (Tm m) (Im m) (Om m)) κ d 0) $$ [-]
  isplitr; · iexact Hctx
  isplitl [Hst]; · iexact Hst
  isplitl [Hcall]
  · rw [st0_eq]; iexact Hcall
  iintro ⟨Hst, Hdn⟩
  ihave Hcall := (Entails.of_eq (dn0_eq m d)) $$ Hdn
  ihave Hheld := (Entails.of_eq (show (iprop(((iLoc d ↦{fullShare} Im m d) ∗ (tLoc d ↦{fullShare} Tm m d) ∗ (oLoc d ↦{fullShare} gathered (Tm m d) (Im m d))) ∗ held (T d) (ucRefs \ callRefs) (V6 m d)) : sProp 𝕄)
      = held (T d) ucRefs (V7 m d) from by
    rw [held_sub_split (T d) callRefs_sub (V7 m d), held_call, V7_v2, V7_of m d main_v0 (by decide), V7_of m d main_v1 (by decide), V6_v0, V6_v1,
      held_congr d (ucRefs \ callRefs) (V6 m d) (V7 m d) fun b hb => (Function.update_of_ne (fun h => absurd (Finset.mem_sdiff.mp hb).2 (by simp [h])) _ _).symm])) $$ [Hcall Hrest]
  · isplitl [Hcall] <;> iassumption
  iapply (wp_hlo_within 𝒱 (SparseCore.T d) none Set.univ (op := opS) (S := ucRefs) hS (V := V7 m d)) $$ [Hb Hheld]
  · isplitl [Hb] <;> iassumption
  iintro ⟨Hb, Hheld⟩
  ihave Hh := (Entails.of_eq (show (held (T d) ucRefs ((opS (F := F)).result (V7 m d)) : sProp 𝕄)
      = iprop(FIN m d ∗ held (T d) (ucRefs \ finRefs) (V8 m d)) from by
    show held (T d) ucRefs (V8 m d) = _
    rw [held_sub_split (T d) finRefs_sub (V8 m d), held_fin, V8_v3, V8_arg m d main_arg0 (.inl rfl), V8_arg m d main_arg1 (.inr rfl)])) $$ Hheld
  icases Hh with ⟨Hfin, -⟩
  rw [wp_ret]; imodintro; imodintro
  isplitl [Hst]; · iexact Hst
  isplitl [Hfin]; · iexact Hfin
  isplitl [Hb] <;> iassumption

/-! ## The final memory, and the program's run -/

def fq (d : Dev nD) (s' : Phys nD τ sig (Elt F)) : Prop :=
  s'.mem.mem (cLoc d) = m (cLoc d) ∧ s'.mem.mem (nLoc d) = m (nLoc d) ∧ s'.mem.mem (rLoc d) = Rm m d

set_option maxRecDepth 16384 in
theorem hfin (d : Dev nD) (s' : Phys nD τ sig (Elt F)) : iprop(FIN m d ∗ SI s') ⊢ (⌜fq m d s'⌝ : sProp 𝕄) := by
  iintro ⟨⟨Hz, Hc, Hr⟩, HSI⟩
  ihave H := (persistent_entails_right (SI_pointsTo_agree (st := s') (ℓ := cLoc d) (I := Finset.univ) (q := fullShare) (f := m (cLoc d)))) $$ [HSI Hz]
  · isplitl [HSI] <;> iassumption
  icases H with ⟨%h1, HSI, -⟩
  ihave H := (persistent_entails_right (SI_pointsTo_agree (st := s') (ℓ := nLoc d) (I := Finset.univ) (q := fullShare) (f := m (nLoc d)))) $$ [HSI Hc]
  · isplitl [HSI] <;> iassumption
  icases H with ⟨%h2, HSI, -⟩
  ihave H := (SI_pointsTo_agree (st := s') (ℓ := rLoc d) (I := Finset.univ) (q := fullShare) (f := Rm m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (cLoc c) = m (cLoc c) ∧ r.2.mem (nLoc c) = m (nLoc c) ∧ r.2.mem (rLoc c) = Rm m c) ∧ r.2.sem = fun _ => 0

theorem run_main [∀ e, Nonempty (Elt F e)] (hI : ∀ d j, (Im m d j : BitVec 32).toNat < 1024) :
    θ_run (Cert.Gather.defs (F := F)) (Cert.Gather.threads (F := F)) ⟨m, fun _ => 0, ρ⟩ (QC m) :=
  SparseCore.Cfg.θ_run_sc_quiescent (K := K (F := F)) (D := D (F := F)) (𝒱 := 𝒱) (EH := EH) (P := P (Tm m) (Im m) (Om m)) (A := ∅) facts v₀
    (fun q hq => match q with | 0 => nomatch hq)
    (fun q _ => match q with | 0 => tileObl (Tm m) (Im m) (Om m) facts hI)
    (fun q _ => match q with | 0 => SparseCore.Cfg.VecSplit.of_plain (vecSplit (Tm m) (Im m) (Om m)))
    m ρ main (fun d => (iprop(emp) : sProp 𝕄)) (FIN m) (u₀ (F := F)) (sep_elim_left.trans (hu₀ (Tm m) (Im m) (Om m))) (hmain m ρ) (fq m) (hfin m) (QC m) (fun _ h hz => ⟨h, hz⟩)

end Cert.Proof.Ga

end
-- ==== Proof.Tkrun.lean ====
/-
  The plain take runs: on every device @main takes the codebook's rows at the given positions; the arguments keep their
  contents.
-/
module

public import proofs.«01_k».proof.Take
public import proofs.«01_k».proof.Proof.Gen.Take
public import Idealize.ShloMosaic.Lib.StableHlo.Run
public import Idealize.ShloMosaic.Lib.Quiescent
public import Idealize.ShloMosaic.Init

@[expose] public section

noncomputable section

namespace Cert.Proof.Tk

open Cert.Take Cert.Take.Gen
open Idealize.ShloMosaic Idealize.SL.Sem
open Idealize.ShloMosaic.StableHlo

variable {F : FTy → Type} [FloatOps F]

/-! ## What the take computes -/

/-- A position below zero counts from the end. -/
def wrapped (i : IVec S32768 32) : IVec S32768 32 :=
  select (cmpi .slt i (broadcastInDim S32768 ![] bcast_S_S32768 (constantI S_ 32 0#32)))
    (addi i (broadcastInDim S32768 ![] bcast_S_S32768 (constantI S_ 32 1024#32))) i

/-- Whether a position is one of the codebook's. -/
def inside (w : IVec S32768x1 32) : IVec S32768 1 :=
  Host.reduce IntOp.andi
    (andi (cmpi .sge w (broadcastInDim S32768x1 ![] bcast_S_S32768x1 (constantI S_ 32 0#32)))
      (cmpi .sle w (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The codebook's rows at the given positions, and NaN at a position outside. -/
def take (c : FVec F S1024x64 .f32) (i : IVec S32768 32) : FVec F S32768x64 .f32 :=
  select (broadcastInDim S32768x64 ![0] bcast_S32768_S32768x64_0
      (inside (broadcastInDim S32768x1 ![0] bcast_S32768_S32768x1_0 (wrapped i))))
    (Host.gather gather_S1024x64_S32768x1_S32768x64_1_0_n_n_0_1_164 c
      (broadcastInDim S32768x1 ![0] bcast_S32768_S32768x1_0 (wrapped i)))
    (broadcastInDim S32768x64 ![] bcast_S_S32768x64 (constant S_ .f32 0x7FC00000#32))

/-! ## The operations -/

/-- @main's operations, in order. -/
def ops : List (HloOp τ sig (Elt F)) :=
  [TRef.nullary (.of main_call0_c : TRef sig ⟨S_, .i32⟩) (constantI S_ 32 0#32),
   TRef.unary (.of main_call0_c : TRef sig ⟨S_, .i32⟩) (.of main_call0_v0 : TRef sig ⟨S32768, .i32⟩) (broadcastInDim S32768 ![] bcast_S_S32768),
   TRef.binary (.of main_arg1 : TRef sig ⟨S32768, .i32⟩) (.of main_call0_v0 : TRef sig ⟨S32768, .i32⟩) (.of main_call0_v1 : TRef sig ⟨S32768, .i1⟩) (cmpi .slt),
   TRef.nullary (.of main_call0_c_0 : TRef sig ⟨S_, .i32⟩) (constantI S_ 32 1024#32),
   TRef.unary (.of main_call0_c_0 : TRef sig ⟨S_, .i32⟩) (.of main_call0_v2 : TRef sig ⟨S32768, .i32⟩) (broadcastInDim S32768 ![] bcast_S_S32768),
   TRef.binary (.of main_arg1 : TRef sig ⟨S32768, .i32⟩) (.of main_call0_v2 : TRef sig ⟨S32768, .i32⟩) (.of main_call0_v3 : TRef sig ⟨S32768, .i32⟩) addi,
   TRef.ternary (.of main_call0_v1 : TRef sig ⟨S32768, .i1⟩) (.of main_call0_v3 : TRef sig ⟨S32768, .i32⟩) (.of main_arg1 : TRef sig ⟨S32768, .i32⟩) (.of main_call0_v4 : TRef sig ⟨S32768, .i32⟩) select,
   TRef.unary (.of main_call0_v4 : TRef sig ⟨S32768, .i32⟩) (.of main_call0_v5 : TRef sig ⟨S32768x1, .i32⟩) (broadcastInDim S32768x1 ![0] bcast_S32768_S32768x1_0),
   TRef.nullary (.of main_call0_c_1 : TRef sig ⟨S1, .i32⟩) (constantI S1 32 1023#32),
   TRef.nullary (.of main_call0_c_2 : TRef sig ⟨S_, .i32⟩) (constantI S_ 32 0#32),
   TRef.unary (.of main_call0_c_2 : TRef sig ⟨S_, .i32⟩) (.of main_call0_v6 : TRef sig ⟨S32768x1, .i32⟩) (broadcastInDim S32768x1 ![] bcast_S_S32768x1),
   TRef.binary (.of main_call0_v5 : TRef sig ⟨S32768x1, .i32⟩) (.of main_call0_v6 : TRef sig ⟨S32768x1, .i32⟩) (.of main_call0_v7 : TRef sig ⟨S32768x1, .i1⟩) (cmpi .sge),
   TRef.unary (.of main_call0_c_1 : TRef sig ⟨S1, .i32⟩) (.of main_call0_v8 : TRef sig ⟨S1x1, .i32⟩) (broadcastInDim S1x1 ![1] bcast_S1_S1x1_1),
   TRef.unary (.of main_call0_v8 : TRef sig ⟨S1x1, .i32⟩) (.of main_call0_v9 : TRef sig ⟨S32768x1, .i32⟩) (broadcastInDim S32768x1 ![0, 1] bcast_S1x1_S32768x1_0_1),
   TRef.binary (.of main_call0_v5 : TRef sig ⟨S32768x1, .i32⟩) (.of main_call0_v9 : TRef sig ⟨S32768x1, .i32⟩) (.of main_call0_v10 : TRef sig ⟨S32768x1, .i1⟩) (cmpi .sle),
   TRef.binary (.of main_call0_v7 : TRef sig ⟨S32768x1, .i1⟩) (.of main_call0_v10 : TRef sig ⟨S32768x1, .i1⟩) (.of main_call0_v11 : TRef sig ⟨S32768x1, .i1⟩) andi,
   TRef.nullary (.of main_call0_c_3 : TRef sig ⟨S_, .i1⟩) (constantI S_ 1 1#1),
   TRef.binary (.of main_call0_v11 : TRef sig ⟨S32768x1, .i1⟩) (.of main_call0_c_3 : TRef sig ⟨S_, .i1⟩) (.of main_call0_v12 : TRef sig ⟨S32768, .i1⟩) (fun x v => Host.reduce IntOp.andi x v reducesTo_S32768x1_S32768_d1 h_S_),
   TRef.binary (.of main_arg0 : TRef sig ⟨S1024x64, .f32⟩) (.of main_call0_v5 : TRef sig ⟨S32768x1, .i32⟩) (.of main_call0_v13 : TRef sig ⟨S32768x64, .f32⟩) (fun x i => Host.gather gather_S1024x64_S32768x1_S32768x64_1_0_n_n_0_1_164 x i),
   TRef.unary (.of main_call0_v12 : TRef sig ⟨S32768, .i1⟩) (.of main_call0_v14 : TRef sig ⟨S32768x64, .i1⟩) (broadcastInDim S32768x64 ![0] bcast_S32768_S32768x64_0),
   TRef.nullary (.of main_call0_cst : TRef sig ⟨S_, .f32⟩) (constant S_ .f32 0x7FC00000#32),
   TRef.unary (.of main_call0_cst : TRef sig ⟨S_, .f32⟩) (.of main_call0_v15 : TRef sig ⟨S32768x64, .f32⟩) (broadcastInDim S32768x64 ![] bcast_S_S32768x64),
   TRef.ternary (.of main_call0_v14 : TRef sig ⟨S32768x64, .i1⟩) (.of main_call0_v13 : TRef sig ⟨S32768x64, .f32⟩) (.of main_call0_v15 : TRef sig ⟨S32768x64, .f32⟩) (.of main_v0 : TRef sig ⟨S32768x64, .f32⟩) select]

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- @main is these operations in order. -/
theorem main_eq (d : Dev nD) : main (F := F) d = seq ops := rfl

theorem noScopedRefs : (Finset.univ.filter fun b : Ref sig .tc => b.isScoped) = ∅ := by decide
theorem noScopedSems : (Finset.univ.filter fun s : SemLoc sig => s.isScoped .tc) = ∅ := by decide

/-! ## What the operations leave -/

variable (V : Valuation τ sig (Elt F))

theorem ops_v0 : after ops V (Proc.devRef .tc main_v0) = take (V (Proc.devRef .tc main_arg0)) (V (Proc.devRef .tc main_arg1)) := by
  simp only [ops, TRef.nullary, TRef.unary, TRef.binary, TRef.ternary, TRef.toBuf, TRef.ofBuf, cast_eq]
  after_results_simp
  rfl
theorem ops_arg0 : after ops V (Proc.devRef .tc main_arg0) = V (Proc.devRef .tc main_arg0) := by
  simp only [ops, TRef.nullary, TRef.unary, TRef.binary, TRef.ternary, TRef.toBuf, TRef.ofBuf, cast_eq]
  after_results_simp
theorem ops_arg1 : after ops V (Proc.devRef .tc main_arg1) = V (Proc.devRef .tc main_arg1) := by
  simp only [ops, TRef.nullary, TRef.unary, TRef.binary, TRef.ternary, TRef.toBuf, TRef.ofBuf, cast_eq]
  after_results_simp

/-! ## The run -/

variable (m : (ℓ : Loc nD τ sig) → Buf (Elt F) ℓ) (ρ : Dev nD → PrngReg)

/-- Where a device's arrays stand. -/
abbrev cLoc (d : Dev nD) : Loc nD τ sig := (d.tc : Thread nD τ).loc main_arg0
@[inherit_doc cLoc] abbrev nLoc (d : Dev nD) : Loc nD τ sig := (d.tc : Thread nD τ).loc main_arg1
@[inherit_doc cLoc] abbrev rLoc (d : Dev nD) : Loc nD τ sig := (d.tc : Thread nD τ).loc main_v0

/-- What a device's result ends at. -/
def Rm (d : Dev nD) : FVec F S32768x64 .f32 := take (m (cLoc d) : FVec F S1024x64 .f32) (m (nLoc d))

/-- The take runs, its result ends at `Rm`, and its arguments keep their contents. -/
theorem run_main : θ_run (defs (F := F)) (onTc (τ := τ) (main (F := F))) ⟨m, fun _ => 0, ρ⟩ fun r =>
    (∀ d, r.2.mem (cLoc d) = m (cLoc d) ∧ r.2.mem (nLoc d) = m (nLoc d) ∧ r.2.mem (rLoc d) = Rm m d) ∧ r.2.sem = fun _ => 0 :=
  (θ_run defs _ _).mono
    (fun r h => ⟨fun d => ⟨(h d main_arg0).trans (ops_arg0 _), (h d main_arg1).trans (ops_arg1 _), (h d main_v0).trans (ops_v0 _)⟩,
      sem_eq_zero_of_no_sems (by decide) r.2⟩)
    (run_seq noScopedRefs noScopedSems defs main (fun _ => ops) main_eq (fun _ => ops_sub) m ρ (fun _ => by
      unfold ops
      intro o h
      (repeat (cases h with | head => rfl | tail _ h => ?_)); exact nomatch h))

end Cert.Proof.Tk

end
-- ==== Proof.Gaval.lean ====
/-
  The gathering program's row numbers and result read at an index, and the equation: at row numbers in range the
  program's result is the plain take's.
-/
module

public import proofs.«01_k».proof.Pre_in_range
public import proofs.«01_k».proof.Proof.GaValues
public import proofs.«01_k».proof.Proof.Tktaken
public import Idealize.ShloMosaic.Lib.KernelVsHost
public import Idealize.ShloMosaic.Lib.ReduceAll
public import Idealize.ShloMosaic.Lib.WordCmp

@[expose] public section

noncomputable section

namespace Cert.Proof.Ga

open Cert.Gather Cert.Gather.Gen
open Idealize.ShloMosaic Idealize.ShloMosaic.ValueIdx Idealize.ShloMosaic.WordCmp

variable {F : FTy → Type} [FloatOps F]

theorem range_facts : Cert.Pre_in_range.Facts := ⟨by decide +kernel, by decide +kernel, by decide +kernel⟩

instance : Subsingleton Cert.Pre_in_range.S_.Idx := ⟨fun _ _ => funext fun a => a.elim0⟩

/-- The precondition says that every row number is one of the codebook's. -/
theorem number_lt [Cert.Pre_in_range.Facts] (c : FVec F S1024x64 .f32) (n : IVec S32768 32)
    (h : Cert.Pre_in_range.fn (F := F) c n = fun _ => 1#1) (i : S32768.Idx) : (n i).toNat < 1024 := by
  have e := Host.reduce_andi_all _ _ _ _ _ (congrFun h (fun a => a.elim0)) i
  have e' : IntOp.andi (IntOp.cmpi .sge (n i) 0#32) (IntOp.cmpi .slt (n i) (BitVec.ofNat 32 1024)) = 1#1 := e
  rw [andi_sge_zero_slt_ofNat (by decide)] at e'
  exact (ofBool_decide_eq_one_iff _).mp e'

/-- Position `r` of the row numbers laid out 256 by 128 is the `r`-th row number. -/
theorem relaid_apply (n : IVec S32768 32) (r : Fin 32768) : relaid n (ipos r) = n (ix1 r) := by
  refine shapeCast_apply _ shapeCasts_S32768_S256x128 (ipos r) (ix1 r) ?_
  rw [Shape.rowMajor_val_one, Shape.rowMajor_val_two]
  show r.val = r.val / 128 * 128 + r.val % 128
  omega

/-- Laid out, every row number is still one of the codebook's. -/
theorem relaid_lt (n : IVec S32768 32) (h : ∀ i, (n i).toNat < 1024) (j : S256x128.Idx) : (relaid n j).toNat < 1024 := by
  have h0 : (j 0).val < 256 := (j 0).isLt
  have h1 : (j 1).val < 128 := (j 1).isLt
  have hj : ipos ⟨128 * (j 0).val + (j 1).val, by omega⟩ = j := by
    funext a
    match a with
    | ⟨0, _⟩ => exact Fin.ext (by show (128 * (j 0).val + (j 1).val) / 128 = (j 0).val; omega)
    | ⟨1, _⟩ => exact Fin.ext (by show (128 * (j 0).val + (j 1).val) % 128 = (j 1).val; omega)
  rw [← hj, relaid_apply]
  exact h _

/-- The padded codebook's first 64 lanes are the codebook. -/
theorem padded_apply (c : FVec F S1024x64 .f32) (x : S1024x128.Idx) (k : Fin 1024) (l : Fin 64) (h0 : (x 0).val = k.val)
    (h1 : (x 1).val = l.val) : padded c x = c (ix2 k l) :=
  pad_apply_of_inside _ _ _ _ _ _ _ _ _ fun a => match a with
    | ⟨0, _⟩ => h0.trans (by show k.val = 0 + k.val * 1; omega)
    | ⟨1, _⟩ => h1.trans (by show l.val = 0 + l.val * 1; omega)

/-- The result's row is the codebook's row at its row number. -/
theorem result_apply (c : FVec F S1024x64 .f32) (n : IVec S32768 32) (r : Fin 32768) (l : Fin 64) (k : Fin 1024)
    (h : (n (ix1 r)).toNat = k.val) : result c n (ix2 r l) = c (ix2 k l) := by
  unfold result
  have hl : l.val < 128 := by omega
  refine (extractStridedSlice_apply _ _ _ _ (ix2 r (⟨l.val, hl⟩ : Fin 128)) ?_).trans ?_
  · intro a
    match a with
    | ⟨0, _⟩ => show r.val = 0 + r.val; omega
    | ⟨1, _⟩ => show l.val = 0 + l.val; omega
  · unfold gathered
    refine padded_apply c _ _ _ ?_ rfl
    show min (relaid n (ipos r)).toNat 1023 = k.val
    rw [relaid_apply, h]
    have := k.isLt
    omega

/-- Program and plain take give the codebook's row at each row number. -/
theorem result_eq (c : FVec F S1024x64 .f32) (n : IVec S32768 32) (h : ∀ i, (n i).toNat < 1024) : result c n = Tk.take c n := by
  funext j
  obtain ⟨r, l, rfl⟩ : ∃ (r : Fin 32768) (l : Fin 64), j = ix2 r l := ⟨j 0, j 1, eq_ix2 j⟩
  refine (result_apply c n r l ⟨(n (ix1 r)).toNat, h _⟩ rfl).trans (Tk.take_apply c n r l _ ?_).symm
  exact BitVec.eq_of_toNat_eq (Least.word_toNat ⟨_, h (ix1 r)⟩).symm

end Cert.Proof.Ga
-- ==== Proof.Neval.lean ====
/-
  The TensorCore's part as a program of its own: on every device its result is the row numbers the kernel's first region
  computes, laid out in one row.
-/
module

public import proofs.«01_k».proof.Proof.Gen.NearestIdeal.Frame
public import proofs.«01_k».proof.Proof.Kerval
public import Idealize.ShloMosaic.Lib.Pipeline.ValueKit.Geometry
public import Idealize.ShloMosaic.Lib.Pipeline.ValueKit.Acc
public import Idealize.ShloMosaic.Lib.Pipeline.Value
public import Idealize.ShloMosaic.Lib.StableHlo.Run

@[expose] public section

noncomputable section

namespace Cert.Proof.Ne

open Cert.NearestIdeal Cert.NearestIdeal.Gen
open Idealize.ShloMosaic Idealize.ShloMosaic.TcCoe Idealize.ShloMosaic.Tactic
open Idealize.SL.Sem

variable {F : FTy → Type} [FloatOps F]

/-- The stored block, as the whole kernel's first region has it. -/
theorem pay_same (X : Vec F S512x64 .f32) (C : Vec F S64x1024 .f32) :
    k0_pay1 (F := F) X C = Cert.KernelIdeal.Gen.k0_pay1 (F := F) X C := rfl

/-- The block's store leaves the block's row numbers. -/
theorem out_eq (X : Vec F S512x64 .f32) (C : Vec F S64x1024 .f32) : out0_2 X C = Cert.KernelIdeal.Gen.k0_pay1 (F := F) X C := by
  unfold out0_2
  rw [View.canon_unit_zero (by decide), View.ld_unit_zero (by decide), View.ld_unit_zero (by decide)]
  exact pay_same X C

variable (m : (ℓ : Loc nD τ sig) → Buf (Elt F) ℓ) (ρ : Dev nD → PrngReg)

/-- The array of row numbers after the region. -/
theorem arr_out (c : Dev nD) : (dats m 0 c).arrAt 2 cfg0.N = Ki.nearest (F := F) (V m c main_arg0) (V m c main_v0) := by
  have i0 : ∀ t : Fin cfg0.N, win0_0.index t = ![(grid0.coords t 0).val, 0] := (by decide +kernel : ∀ t : Fin grid0.N, _)
  have i1 : ∀ t : Fin cfg0.N, win0_1.index t = ![0, 0] := (by decide +kernel : ∀ t : Fin grid0.N, _)
  have i2 : ∀ t : Fin cfg0.N, win0_2.index t = ![(grid0.coords t 0).val, 0, 0] := (by decide +kernel : ∀ t : Fin grid0.N, _)
  refine (dats m 0 c).arrAt_eq_of_covers 2 _ (by decide +kernel) fun t hf y => ?_
  have hy : y = Ki.opos (y 1) := by
    funext a; fin_cases a
    · exact Subsingleton.elim (α := Fin 1) _ _
    · rfl
    · exact Subsingleton.elim (α := Fin 1) _ _
  blk_simp
  rw [after0_2, out_eq]
  unfold Ki.nearest
  obtain ⟨n, hn⟩ : ∃ n : Fin 64, n = ((win0_2.blk t).view.emb y 0 : Fin 64) := ⟨_, rfl⟩
  have h2 : n.val = (grid0.coords t 0).val := by
    rw [hn]
    blk_simp [i2]
  rw [← hn]
  have hb0 : iblk m c 0 t = Ki.zblk (V m c main_arg0) n := by
    funext x
    show V m c main_arg0 (((cfg0.win 0).blk t).view.emb x) = V m c main_arg0 (Ki.zpos n x)
    refine congrArg (V m c main_arg0) ?_
    funext a; fin_cases a
    · apply Fin.ext
      blk_simp [i0]
      show (grid0.coords t 0).val * 512 + (x 0).val = 512 * n.val + (x 0).val
      rw [h2, Nat.mul_comm]
    · apply Fin.ext
      blk_simp [i0]
      rfl
  have hb1 : iblk m c 1 t = V m c main_v0 := by
    funext x
    show V m c main_v0 (((cfg0.win 1).blk t).view.emb x) = V m c main_v0 x
    refine congrArg (V m c main_v0) ?_
    funext a; fin_cases a <;> (apply Fin.ext; blk_simp [i1])
  have hb2 : (Ki.opos ((win0_2.blk t).view.emb y 1) : S1x512x1.Idx) = Ki.opos (y 1) := by
    refine congrArg Ki.opos ?_
    apply Fin.ext
    show (((win0_2.blk t).view.emb y 1 : Fin 512) : ℕ) = _
    blk_simp [i2]
  rw [hb0, hb1, hb2]
  exact congrArg _ hy

theorem V_v0 (c : Dev nD) : V m c main_v0 = Ki.transposed (F := F) (m ((c : Thread nD τ).loc main_arg1)) := by
  show StableHlo.after [hostOps0].flatten (fun b => m (c, b)) (Proc.devRef .tc main_v0) = _
  simp only [List.flatten_cons, List.flatten_nil, List.append_nil, StableHlo.after]
  refine (StableHlo.unary_result _ _ _ _ _ _).trans ?_
  rfl

/-- The program's result in its arguments. -/
def result (z : Vec F S32768x64 .f32) (b : Vec F S1024x64 .f32) : IVec S32768 32 :=
  shapeCast S32768 (Ki.nearest (F := F) z (Ki.transposed b)) shapeCasts_S64x512x1_S32768

/-- What a device's result ends at. -/
def Rm (c : Dev nD) : IVec S32768 32 := result (F := F) (m ((c : Thread nD τ).loc main_arg0)) (m ((c : Thread nD τ).loc main_arg1))

theorem tail_v2 (c : Dev nD) : Pipeline.afterTail₀ cfgs (dats m) 0 (V0 m) [hostOps1] c main_v2 = Rm m c := by
  unfold Pipeline.afterTail₀
  simp only [List.flatten_cons, List.flatten_nil, List.append_nil, StableHlo.after]
  refine (StableHlo.reshape_result _ _ _ _ _ _ _).trans ?_
  have h := Pipeline.withArrays_arr spec0 launch0.win.arr_inj c (V0 m c) (fun w => (dats m 0 c).arrAt w cfg0.N) 2
  rw [show Pipeline.withArrays (cfgs 0).spec c (V0 m c) (fun w => (dats m 0 c).arrAt w (cfgs 0).N) (Proc.devRef .tc main_v1)
    = Ki.nearest (F := F) (m ((c : Thread nD τ).loc main_arg0)) (Ki.transposed (F := F) (m ((c : Thread nD τ).loc main_arg1))) from
    h.trans ((arr_out m c).trans (by rw [V_main_arg0, V_v0]))]
  rfl

/-- The program runs, its result ends at `Rm`, and its arguments keep their contents. -/
theorem run_main : θ_run (defs (F := F)) (onTc (τ := τ) (main (F := F))) ⟨m, fun _ => 0, ρ⟩ fun r => ∀ c : Dev nD,
    r.2.mem ((c : Thread nD τ).loc main_v2) = Rm m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨((h.1 c).2 main_v2 (Pipeline.mem_restRefs_of main_v2 (by decide) (by decide))).trans (tail_v2 m c), (h.2.1 c).1, (h.2.1 c).2⟩)
    (θ_run_and (Cert.NearestIdeal.Gen.run_main m ρ) (frame m ρ))

end Cert.Proof.Ne

end
-- ==== Proof.Amrun.lean ====
/-
  The plain argmin runs: on every device @main computes the table of squared distances and its argmin along the codes; the
  arguments keep their contents.
-/
module

public import proofs.«01_k».proof.ArgminIdeal
public import proofs.«01_k».proof.Proof.Gen.ArgminIdeal
public import Idealize.ShloMosaic.Lib.StableHlo.Run
public import Idealize.ShloMosaic.Lib.Quiescent
public import Idealize.ShloMosaic.Init

@[expose] public section

noncomputable section

namespace Cert.Proof.Am

open Cert.ArgminIdeal Cert.ArgminIdeal.Gen
open Idealize.ShloMosaic Idealize.SL.Sem
open Idealize.ShloMosaic.StableHlo

variable {F : FTy → Type} [FloatOps F]

/-! ## What the argmin computes -/

/-- The table of squared distances as the program writes it: the row's norm, less twice the product, plus the code's norm. -/
def distances (z : FVec F S32768x64 .f32) (c : FVec F S1024x64 .f32) : FVec F S32768x1024 .f32 :=
  addf
    (subf
      (broadcastInDim S32768x1024 ![0, 1] bcast_S32768x1_S32768x1024_0_1
        (broadcastInDim S32768x1 ![0] bcast_S32768_S32768x1_0
          (Host.reduceAdd (mulf z z) (constant S_ .f32 0x00000000#32) reducesTo_S32768x64_S32768_d1 h_S_)))
      (mulf (broadcastInDim S32768x1024 ![] bcast_S_S32768x1024 (constant S_ .f32 0x40000000#32))
        (Host.dotGeneral dot_S32768x64_S64x1024_S32768x1024_1_0_0_1_n_n none z
          (transpose S64x1024 [1, 0] c transposes_S1024x64_S64x1024_1_0))))
    (broadcastInDim S32768x1024 ![0, 1] bcast_S1x1024_S32768x1024_0_1
      (broadcastInDim S1x1024 ![1] bcast_S1024_S1x1024_1
        (Host.reduceAdd (mulf c c) (constant S_ .f32 0x00000000#32) reducesTo_S1024x64_S1024_d1 h_S_)))

/-- The position of a row's least distance. -/
def pick (d : FVec F S32768x1024 .f32) : IVec S32768 32 := fun j =>
  (Host.argReduce reducer_argmin_f32_i32 d (iotaInDim S32768x1024 32 1) (constant S_ .f32 0x7F800000#32) (constantI S_ 32 0#32)
    reducesTo_S32768x1024_S32768_d1 h_S_ j).2

/-! ## The operations -/

/-- The operations that compute the table of squared distances. -/
def distOps : List (HloOp τ sig (Elt F)) :=
  [binary main_arg0 main_arg0 main_v0 (mulf : (⟨S32768x64, .f32⟩ : BufTy).Contents (Elt F) → (⟨S32768x64, .f32⟩ : BufTy).Contents (Elt F) → (⟨S32768x64, .f32⟩ : BufTy).Contents (Elt F)),
   nullary main_cst (constant S_ .f32 0x00000000#32),
   binary main_v0 main_cst main_v1 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
   unary main_v1 main_v2 (broadcastInDim S32768x1 ![0] bcast_S32768_S32768x1_0 : (⟨S32768, .f32⟩ : BufTy).Contents (Elt F) → (⟨S32768x1, .f32⟩ : BufTy).Contents (Elt F)),
   binary main_arg1 main_arg1 main_v3 (mulf : (⟨S1024x64, .f32⟩ : BufTy).Contents (Elt F) → (⟨S1024x64, .f32⟩ : BufTy).Contents (Elt F) → (⟨S1024x64, .f32⟩ : BufTy).Contents (Elt F)),
   nullary main_cst_0 (constant S_ .f32 0x00000000#32),
   binary main_v3 main_cst_0 main_v4 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
   unary main_arg1 main_v5 ((transpose S64x1024 [1, 0] · transposes_S1024x64_S64x1024_1_0) : (⟨S1024x64, .f32⟩ : BufTy).Contents (Elt F) → (⟨S64x1024, .f32⟩ : BufTy).Contents (Elt F)),
   binary main_arg0 main_v5 main_v6 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
   nullary main_cst_1 (constant S_ .f32 0x40000000#32),
   unary main_cst_1 main_v7 (broadcastInDim S32768x1024 ![] bcast_S_S32768x1024 : (⟨S_, .f32⟩ : BufTy).Contents (Elt F) → (⟨S32768x1024, .f32⟩ : BufTy).Contents (Elt F)),
   binary main_v7 main_v6 main_v8 (mulf : (⟨S32768x1024, .f32⟩ : BufTy).Contents (Elt F) → (⟨S32768x1024, .f32⟩ : BufTy).Contents (Elt F) → (⟨S32768x1024, .f32⟩ : BufTy).Contents (Elt F)),
   unary main_v2 main_v9 (broadcastInDim S32768x1024 ![0, 1] bcast_S32768x1_S32768x1024_0_1 : (⟨S32768x1, .f32⟩ : BufTy).Contents (Elt F) → (⟨S32768x1024, .f32⟩ : BufTy).Contents (Elt F)),
   binary main_v9 main_v8 main_v10 (subf : (⟨S32768x1024, .f32⟩ : BufTy).Contents (Elt F) → (⟨S32768x1024, .f32⟩ : BufTy).Contents (Elt F) → (⟨S32768x1024, .f32⟩ : BufTy).Contents (Elt F)),
   unary main_v4 main_v11 (broadcastInDim S1x1024 ![1] bcast_S1024_S1x1024_1 : (⟨S1024, .f32⟩ : BufTy).Contents (Elt F) → (⟨S1x1024, .f32⟩ : BufTy).Contents (Elt F)),
   unary main_v11 main_v12 (broadcastInDim S32768x1024 ![0, 1] bcast_S1x1024_S32768x1024_0_1 : (⟨S1x1024, .f32⟩ : BufTy).Contents (Elt F) → (⟨S32768x1024, .f32⟩ : BufTy).Contents (Elt F)),
   binary main_v10 main_v12 main_v13 (addf : (⟨S32768x1024, .f32⟩ : BufTy).Contents (Elt F) → (⟨S32768x1024, .f32⟩ : BufTy).Contents (Elt F) → (⟨S32768x1024, .f32⟩ : BufTy).Contents (Elt F))]

/-- The operations of the argmin's call. -/
def pickOps : List (HloOp τ sig (Elt F)) :=
  [TRef.nullary (.of main_call0_v0 : TRef sig ⟨S32768x1024, .i32⟩) (iotaInDim S32768x1024 32 1),
   TRef.nullary (.of main_call0_cst : TRef sig ⟨S_, .f32⟩) (constant S_ .f32 0x7F800000#32),
   TRef.nullary (.of main_call0_c : TRef sig ⟨S_, .i32⟩) (constantI S_ 32 0#32),
   TRef.quaternary (.of main_v13 : TRef sig ⟨S32768x1024, .f32⟩) (.of main_call0_v0 : TRef sig ⟨S32768x1024, .i32⟩) (.of main_call0_cst : TRef sig ⟨S_, .f32⟩) (.of main_call0_c : TRef sig ⟨S_, .i32⟩) (.of main_call0_v1_0 : TRef sig ⟨S32768, .f32⟩) (fun x y u v j => (Host.argReduce reducer_argmin_f32_i32 x y u v reducesTo_S32768x1024_S32768_d1 h_S_ j).1),
   TRef.quaternary (.of main_v13 : TRef sig ⟨S32768x1024, .f32⟩) (.of main_call0_v0 : TRef sig ⟨S32768x1024, .i32⟩) (.of main_call0_cst : TRef sig ⟨S_, .f32⟩) (.of main_call0_c : TRef sig ⟨S_, .i32⟩) (.of main_v14 : TRef sig ⟨S32768, .i32⟩) (fun x y u v j => (Host.argReduce reducer_argmin_f32_i32 x y u v reducesTo_S32768x1024_S32768_d1 h_S_ j).2)]

/-- All of @main's operations. -/
def ops : List (HloOp τ sig (Elt F)) := distOps ++ pickOps

theorem distOps_sub : (distOps : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem pickOps_sub : (pickOps : List (HloOp τ sig (Elt F))).Forall fun op => op.bufs ⊆ tcRefs τ sig :=
  ⟨nullary_bufs_sub .., nullary_bufs_sub .., nullary_bufs_sub .., quaternary_bufs_sub .., quaternary_bufs_sub ..⟩

/-- The operations read and write the TensorCore's arrays only. -/
theorem ops_sub : (ops : List (HloOp τ sig (Elt F))).Forall fun op => op.bufs ⊆ tcRefs τ sig := by
  unfold ops
  rw [List.forall_append]
  exact ⟨distOps_sub, pickOps_sub⟩

/-- @main is these operations in order. -/
theorem main_eq (d : Dev nD) : main (F := F) d = seq ops := rfl

theorem noScopedRefs : (Finset.univ.filter fun b : Ref sig .tc => b.isScoped) = ∅ := by decide
theorem noScopedSems : (Finset.univ.filter fun s : SemLoc sig => s.isScoped .tc) = ∅ := by decide

theorem after_join (l₁ l₂ : List (HloOp τ sig (Elt F))) (V : Valuation τ sig (Elt F)) : after (l₁ ++ l₂) V = after l₂ (after l₁ V) := by
  induction l₁ generalizing V with
  | nil => rfl
  | cons o l ih => exact ih _

/-! ## What the operations leave -/

variable (V : Valuation τ sig (Elt F))

theorem dist_v13 : after distOps V (Proc.devRef .tc main_v13) = distances (V (Proc.devRef .tc main_arg0)) (V (Proc.devRef .tc main_arg1)) := by
  unfold distOps
  after_results_simp
  rfl
theorem dist_arg0 : after distOps V (Proc.devRef .tc main_arg0) = V (Proc.devRef .tc main_arg0) := by
  unfold distOps
  after_results_simp
theorem dist_arg1 : after distOps V (Proc.devRef .tc main_arg1) = V (Proc.devRef .tc main_arg1) := by
  unfold distOps
  after_results_simp

theorem pick_v14 : after pickOps V (Proc.devRef .tc main_v14) = pick (V (Proc.devRef .tc main_v13)) := by
  simp only [pickOps, TRef.nullary, TRef.quaternary, TRef.toBuf, TRef.ofBuf, cast_eq]
  after_results_simp
  rfl
theorem pick_arg0 : after pickOps V (Proc.devRef .tc main_arg0) = V (Proc.devRef .tc main_arg0) := by
  simp only [pickOps, TRef.nullary, TRef.quaternary, TRef.toBuf, TRef.ofBuf, cast_eq]
  after_results_simp
theorem pick_arg1 : after pickOps V (Proc.devRef .tc main_arg1) = V (Proc.devRef .tc main_arg1) := by
  simp only [pickOps, TRef.nullary, TRef.quaternary, TRef.toBuf, TRef.ofBuf, cast_eq]
  after_results_simp

theorem ops_v14 : after ops V (Proc.devRef .tc main_v14)
    = pick (distances (V (Proc.devRef .tc main_arg0)) (V (Proc.devRef .tc main_arg1))) := by
  unfold ops
  rw [after_join, pick_v14, dist_v13]
theorem ops_arg0 : after ops V (Proc.devRef .tc main_arg0) = V (Proc.devRef .tc main_arg0) := by
  unfold ops
  rw [after_join, pick_arg0, dist_arg0]
theorem ops_arg1 : after ops V (Proc.devRef .tc main_arg1) = V (Proc.devRef .tc main_arg1) := by
  unfold ops
  rw [after_join, pick_arg1, dist_arg1]

/-! ## The run -/

variable (m : (ℓ : Loc nD τ sig) → Buf (Elt F) ℓ) (ρ : Dev nD → PrngReg)

/-- Where a device's arrays stand. -/
abbrev zLoc (d : Dev nD) : Loc nD τ sig := (d.tc : Thread nD τ).loc main_arg0
@[inherit_doc zLoc] abbrev cLoc (d : Dev nD) : Loc nD τ sig := (d.tc : Thread nD τ).loc main_arg1
@[inherit_doc zLoc] abbrev rLoc (d : Dev nD) : Loc nD τ sig := (d.tc : Thread nD τ).loc main_v14

/-- What a device's result ends at. -/
def Rm (d : Dev nD) : IVec S32768 32 := pick (distances (F := F) (m (zLoc d)) (m (cLoc d)))

/-- The argmin runs, its result ends at `Rm`, and its arguments keep their contents. -/
theorem run_main : θ_run (defs (F := F)) (onTc (τ := τ) (main (F := F))) ⟨m, fun _ => 0, ρ⟩ fun r =>
    (∀ d, r.2.mem (rLoc d) = Rm m d ∧ r.2.mem (zLoc d) = m (zLoc d) ∧ r.2.mem (cLoc d) = m (cLoc d)) ∧ r.2.sem = fun _ => 0 :=
  (θ_run defs _ _).mono
    (fun r h => ⟨fun d => ⟨(h d main_v14).trans (ops_v14 _), (h d main_arg0).trans (ops_arg0 _), (h d main_arg1).trans (ops_arg1 _)⟩,
      sem_eq_zero_of_no_sems (by decide) r.2⟩)
    (run_seq noScopedRefs noScopedSems defs main (fun _ => ops) main_eq (fun _ => ops_sub) m ρ (fun _ => by
      unfold ops distOps pickOps
      intro o h
      simp only [List.cons_append, List.nil_append] at h
      (repeat (cases h with | head => rfl | tail _ h => ?_)); exact nomatch h))

end Cert.Proof.Am

end
-- ==== Proof.Amval.lean ====
/-
  The equation of the TensorCore's part: on the extended reals its row numbers are the plain argmin's.
-/
module

public import proofs.«01_k».proof.Proof.Neval
public import proofs.«01_k».proof.Proof.Amrun
public import proofs.«01_k».proof.Proof.Refval

@[expose] public section

noncomputable section

namespace Cert.Proof

open Idealize.ShloMosaic Idealize.ShloMosaic.ValueIdx

/-- The two references compute one table of distances. -/
theorem Am.distances_same (z : FVec Ideal Cert.ArgminIdeal.S32768x64 .f32) (c : FVec Ideal Cert.ArgminIdeal.S1024x64 .f32) :
    Am.distances (F := Ideal) z c = Rf.distances z c := rfl

/-- And pick the position of a row's least distance in one way. -/
theorem Am.pick_same (d : FVec Ideal Cert.ArgminIdeal.S32768x1024 .f32) : Am.pick (F := Ideal) d = Rf.pick d := by
  unfold Am.pick Rf.pick
  exact Eq.refl _

/-- The row numbers in one row, read at a row. -/
theorem Ne.result_apply (z : FVec Ideal Cert.NearestIdeal.S32768x64 .f32) (c : FVec Ideal Cert.NearestIdeal.S1024x64 .f32) (r : Fin 32768) :
    Ne.result (F := Ideal) z c (ix1 r) = Least.word (Ki.code z c r) := by
  have ht : r.val / 512 < 64 := by omega
  have hp : r.val % 512 < 512 := by omega
  unfold Ne.result
  refine (shapeCast_apply _ _ (ix1 r)
    (ix3 (⟨r.val / 512, ht⟩ : Fin 64) (⟨r.val % 512, hp⟩ : Fin 512) (0 : Fin 1)) ?_).trans
    (Ki.nearest_apply z c ⟨r.val / 512, ht⟩ ⟨r.val % 512, hp⟩ r ?_)
  · rw [Shape.rowMajor_val_three, Shape.rowMajor_val_one]
    show (r.val / 512 * 512 + r.val % 512) * 1 + 0 = r.val
    omega
  · show r.val = 512 * (r.val / 512) + r.val % 512
    omega

/-- Program and argmin give the first code of least squared distance. -/
theorem Ne.result_eq (z : FVec Ideal Cert.NearestIdeal.S32768x64 .f32) (c : FVec Ideal Cert.NearestIdeal.S1024x64 .f32) :
    Ne.result (F := Ideal) z c = Am.pick (F := Ideal) (Am.distances z c) := by
  rw [Am.pick_same, Am.distances_same]
  funext j
  obtain ⟨r, rfl⟩ : ∃ r : Fin 32768, j = ix1 r := ⟨j 0, eq_ix1 j⟩
  refine (Ne.result_apply z c r).trans ((Rf.pick_apply _ r).trans (congrArg Least.word ?_)).symm
  exact congrArg Least.first (funext fun k => Rf.distances_apply z c r k)

end Cert.Proof
-- ==== Proof.lean ====
/-
  The assembled certificate: the frames of the kernel and of the reference on the extended reals, and their equation; and
  for each of the kernel's two calls as a program of its own its frame and its equation with a plain reference, the
  SparseCore's on machine words.
-/
module

public import proofs.«01_k».proof.Defs
public import proofs.«01_k».proof.Proof.Gen.KernelIdeal
public import proofs.«01_k».proof.Proof.Gen.ReferenceIdeal
public import proofs.«01_k».proof.Proof.Run
public import proofs.«01_k».proof.Proof.Refrun
public import proofs.«01_k».proof.Proof.Equation
public import proofs.«01_k».proof.Proof.Gen.Nearest.Frame
public import proofs.«01_k».proof.Proof.GaRun
public import proofs.«01_k».proof.Proof.Gaval
public import proofs.«01_k».proof.Proof.Amval
public import Idealize.ShloMosaic.Adequacy
public import Idealize.ShloMosaic.Init

@[expose] public section

noncomputable section

namespace Cert.Proof

open Idealize.ShloMosaic Idealize.SL.Sem

/-- The kernel's run on the extended reals, every row number being a row of the codebook. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (Ki.QC (F := Ideal) m) :=
  haveI : ∀ e, Nonempty (Elt Ideal e) := fun e => by cases e <;> exact inferInstance
  Ki.run_main m g fun d j => Ki.rows_lt _ _ j

/-- The gathering program's run on machine words, every row number being a row of the codebook. -/
theorem gather_run [Cert.Pre_in_range.Facts] (m : (ℓ : Loc Cert.Gather.nD Cert.Gather.τ Cert.Gather.sig) → Buf (Elt Bits) ℓ)
    (g : Dev Cert.Gather.nD → PrngReg) (h : Cert.Pre_Gather m) :
    θ_run (Cert.Gather.defs (F := Bits)) (Cert.Gather.threads (F := Bits)) ⟨m, fun _ => 0, g⟩ (Ga.QC (F := Bits) m) :=
  haveI : ∀ e, Nonempty (Elt Bits e) := fun e => by cases e <;> exact inferInstance
  Ga.run_main m g fun d j => Ga.relaid_lt _ (Ga.number_lt (F := Bits) _ _ (h d)) j

/-- The whole kernel against the reference. -/
theorem whole : Cert.algebraic_KernelIdeal_ReferenceIdeal := fun m g m' g' _ hargs => by
  have e : ∀ c, Rf.Rm (F := Ideal) m' c = Ki.Rm (F := Ideal) m c := fun c => by
    unfold Rf.Rm Ki.Rm
    rw [result_eq]
    exact congrArg₂ (fun z b => Rf.take (F := Ideal) b (Rf.pick (Rf.distances z b))) (hargs c).1 (hargs c).2
  refine ⟨fun c => Ki.Rm (F := Ideal) m c, fun c => Ki.Rm (F := Ideal) m c, ?_, ?_⟩
  · exact (θ_run _ _ _).mono (fun r h c => ⟨(h.1 c).2.2, (h.1 c).2.2, (h.1 c).1, (h.1 c).2.1⟩) (kernel_run m g)
  · exact (θ_run _ _ _).mono (fun r h c => ⟨(h.1 c).1.trans (e c), (h.1 c).2.1.trans (e c), (h.1 c).2.2.1, (h.1 c).2.2.2⟩)
      (Rf.run_main m' g')

/-- The SparseCore's part against the plain take, on machine words. -/
theorem gathering [Cert.Pre_in_range.Facts] : Cert.bitexact_Gather_Take := fun m g m' g' hpre hargs => by
  have e : ∀ c, Tk.Rm (F := Bits) m' c = Ga.Rm (F := Bits) m c := fun c => by
    unfold Tk.Rm Ga.Rm
    rw [Ga.result_eq _ _ (Ga.number_lt (F := Bits) _ _ (hpre c))]
    exact congrArg₂ (fun b n => Tk.take (F := Bits) b n) (hargs c).1 (hargs c).2
  refine ⟨fun c => Ga.Rm (F := Bits) m c, ?_, ?_⟩
  · exact (θ_run _ _ _).mono (fun r h c => ⟨(h.1 c).2.2, (h.1 c).1, (h.1 c).2.1⟩) (gather_run m g hpre)
  · exact (θ_run _ _ _).mono (fun r h c => ⟨(h.1 c).2.2.trans (e c), (h.1 c).1, (h.1 c).2.1⟩) (Tk.run_main m' g')

/-- The TensorCore's part against the plain argmin. -/
theorem nearest : Cert.algebraic_NearestIdeal_ArgminIdeal := fun m g m' g' _ hargs => by
  have e : ∀ c, Am.Rm (F := Ideal) m' c = Ne.Rm (F := Ideal) m c := fun c => by
    unfold Am.Rm Ne.Rm
    rw [Ne.result_eq]
    exact congrArg₂ (fun z b => Am.pick (F := Ideal) (Am.distances z b)) (hargs c).1 (hargs c).2
  refine ⟨fun c => Ne.Rm (F := Ideal) m c, ?_, ?_⟩
  · exact Ne.run_main m g
  · exact (θ_run _ _ _).mono (fun r h c => ⟨(h.1 c).1.trans (e c), (h.1 c).2.1, (h.1 c).2.2⟩) (Am.run_main m' g')

theorem claim : Cert.Claim := ⟨Cert.KernelIdeal.Gen.facts, Cert.ReferenceIdeal.Gen.facts, Cert.Gather.Gen.facts, Cert.Take.Gen.facts,
  Cert.Nearest.Gen.facts, Cert.NearestIdeal.Gen.facts, Cert.ArgminIdeal.Gen.facts, Ga.range_facts, by
  haveI := Ga.range_facts
  refine ⟨fun m g _ => ?_, fun m g _ => ?_, fun m g h => ?_, fun m g _ => ?_, fun m g _ => ?_,
    fun m g _ => Cert.Nearest.Gen.frame m g,
    fun m g _ => Cert.NearestIdeal.Gen.frame m g, fun m g _ => ?_, whole, gathering, trivial, nearest⟩
  · exact (θ_run _ _ _).mono (fun r h => ⟨fun c => ⟨(h.1 c).1, (h.1 c).2.1⟩, h.2⟩) (kernel_run m g)
  · exact (θ_run _ _ _).mono (fun r h => ⟨fun c => ⟨(h.1 c).2.2.1, (h.1 c).2.2.2⟩, h.2⟩) (Rf.run_main m g)
  · exact (θ_run _ _ _).mono (fun r h => ⟨fun c => ⟨(h.1 c).1, (h.1 c).2.1⟩, h.2⟩) (gather_run m g h)
  · exact (θ_run _ _ _).mono (fun r h => ⟨fun c => ⟨(h.1 c).1, (h.1 c).2.1⟩, h.2⟩) (Tk.run_main m g)
  · exact (θ_run _ _ _).mono (fun r h => ⟨fun c => ⟨(h.1 c).1, (h.1 c).2.1⟩, h.2⟩) (Tk.run_main m g)
  · exact (θ_run _ _ _).mono (fun r h => ⟨fun c => ⟨(h.1 c).2.1, (h.1 c).2.2⟩, h.2⟩) (Am.run_main m g)⟩

end Cert.Proof

end
